-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v57_0)) (v1 : (c : Dev Cert.InprojIdeal.nD) → Buf (Elt Ideal) ((c.tc : Thread Cert.InprojIdeal.nD Cert.InprojIdeal.τ).loc Cert.InprojIdeal.main_v57_1)) (v2 : (c : Dev Cert.InprojIdeal.nD) → Buf (Elt Ideal) ((c.tc : Thread Cert.InprojIdeal.nD Cert.InprojIdeal.τ).loc Cert.InprojIdeal.main_v57_2)) (v3 : (c : Dev Cert.InprojIdeal.nD) → Buf (Elt Ideal) ((c.tc : Thread Cert.InprojIdeal.nD Cert.InprojIdeal.τ).loc Cert.InprojIdeal.main_v57_3)) (v4 : (c : Dev Cert.InprojIdeal.nD) → Buf (Elt Ideal) ((c.tc : Thread Cert.InprojIdeal.nD Cert.InprojIdeal.τ).loc Cert.InprojIdeal.main_v57_4)) (v5 : (c : Dev Cert.InprojIdeal.nD) → Buf (Elt Ideal) ((c.tc : Thread Cert.InprojIdeal.nD Cert.InprojIdeal.τ).loc Cert.InprojIdeal.main_v57_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v57_0) = v0 c
          ∧ r.2.mem ((c.tc : Thread Cert.InprojIdeal.nD Cert.InprojIdeal.τ).loc Cert.InprojIdeal.main_v57_1) = v1 c
          ∧ r.2.mem ((c.tc : Thread Cert.InprojIdeal.nD Cert.InprojIdeal.τ).loc Cert.InprojIdeal.main_v57_2) = v2 c
          ∧ r.2.mem ((c.tc : Thread Cert.InprojIdeal.nD Cert.InprojIdeal.τ).loc Cert.InprojIdeal.main_v57_3) = v3 c
          ∧ r.2.mem ((c.tc : Thread Cert.InprojIdeal.nD Cert.InprojIdeal.τ).loc Cert.InprojIdeal.main_v57_4) = v4 c
          ∧ r.2.mem ((c.tc : Thread Cert.InprojIdeal.nD Cert.InprojIdeal.τ).loc Cert.InprojIdeal.main_v57_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v65) = v0 c
          ∧ r.2.mem ((c.tc : Thread Cert.InprojRefIdeal.nD Cert.InprojRefIdeal.τ).loc Cert.InprojRefIdeal.main_v172) = v1 c
          ∧ r.2.mem ((c.tc : Thread Cert.InprojRefIdeal.nD Cert.InprojRefIdeal.τ).loc Cert.InprojRefIdeal.main_v173) = v2 c
          ∧ r.2.mem ((c.tc : Thread Cert.InprojRefIdeal.nD Cert.InprojRefIdeal.τ).loc Cert.InprojRefIdeal.main_v174) = v3 c
          ∧ r.2.mem ((c.tc : Thread Cert.InprojRefIdeal.nD Cert.InprojRefIdeal.τ).loc Cert.InprojRefIdeal.main_v160) = v4 c
          ∧ r.2.mem ((c.tc : Thread Cert.InprojRefIdeal.nD Cert.InprojRefIdeal.τ).loc Cert.InprojRefIdeal.main_v175) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_finite.lean ====
abbrev S16x8x4096x128 : Shape := ⟨4, ![16, 8, 4096, 128]⟩
abbrev S16x8x256x128 : Shape := ⟨4, ![16, 8, 256, 128]⟩
abbrev S64 : Shape := ⟨1, ![64]⟩
abbrev S128 : Shape := ⟨1, ![128]⟩
abbrev S_ : Shape := ⟨0, ![]⟩

class Facts : Prop where
  bcast_S_S16x8x4096x128 : S_.BroadcastsInDim S16x8x4096x128 (![] : Fin 0 → Fin S16x8x4096x128.rank)
  bcast_S_S16x8x256x128 : S_.BroadcastsInDim S16x8x256x128 (![] : Fin 0 → Fin S16x8x256x128.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_arg8 : FVec F S64 .f32) (main_v2 : IVec S16x8x4096x128 1) (main_v5 : IVec S16x8x256x128 1) (main_v8 : IVec S16x8x256x128 1) (main_v11 : IVec S16x8x4096x128 1) (main_v14 : IVec S16x8x4096x128 1) (main_v17 : IVec S64 1) : IVec S16x8x4096x128 1 × IVec S16x8x256x128 1 × IVec S16x8x256x128 1 × IVec S16x8x4096x128 1 × IVec S16x8x4096x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S16x8x4096x128 .f32) (main_arg1 : FVec F S16x8x256x128 .f32) (main_arg2 : FVec F S16x8x256x128 .f32) (main_arg3 : FVec F S16x8x4096x128 .f32) (main_arg4 : FVec F S16x8x4096x128 .f32) (main_arg5 : FVec F S64 .f32) (main_arg6 : FVec F S64 .f32) (main_arg7 : FVec F S64 .f32) (main_arg8 : FVec F S64 .f32) (main_arg9 : FVec F S128 .f32) : IVec S16x8x4096x128 1 × IVec S16x8x256x128 1 × IVec S16x8x256x128 1 × IVec S16x8x4096x128 1 × IVec S16x8x4096x128 1 × IVec S64 1 × IVec S64 1 × IVec S64 1 × IVec S64 1 :=
  let main_v0 : FVec F S16x8x4096x128 .f32 := Host.absf main_arg0
  let main_cst : FVec F S_ .f32 := constant S_ .f32 0x7F800000#32
  let main_v1 : FVec F S16x8x4096x128 .f32 := broadcastInDim S16x8x4096x128 ![] bcast_S_S16x8x4096x128 main_cst
  let main_v2 : IVec S16x8x4096x128 1 := cmpf .olt main_v0 main_v1
  let main_v3 : FVec F S16x8x256x128 .f32 := Host.absf main_arg1
  let main_cst_0 : FVec F S_ .f32 := constant S_ .f32 0x7F800000#32
  let main_v4 : FVec F S16x8x256x128 .f32 := broadcastInDim S16x8x256x128 ![] bcast_S_S16x8x256x128 main_cst_0
  let main_v5 : IVec S16x8x256x128 1 := cmpf .olt main_v3 main_v4
  let main_v6 : FVec F S16x8x256x128 .f32 := Host.absf main_arg2
  let main_cst_1 : FVec F S_ .f32 := constant S_ .f32 0x7F800000#32
  let main_v7 : FVec F S16x8x256x128 .f32 := broadcastInDim S16x8x256x128 ![] bcast_S_S16x8x256x128 main_cst_1
  let main_v8 : IVec S16x8x256x128 1 := cmpf .olt main_v6 main_v7
  let main_v9 : FVec F S16x8x4096x128 .f32 := Host.absf main_arg3
  let main_cst_2 : FVec F S_ .f32 := constant S_ .f32 0x7F800000#32
  let main_v10 : FVec F S16x8x4096x128 .f32 := broadcastInDim S16x8x4096x128 ![] bcast_S_S16x8x4096x128 main_cst_2
  let main_v11 : IVec S16x8x4096x128 1 := cmpf .olt main_v9 main_v10
  let main_v12 : FVec F S16x8x4096x128 .f32 := Host.absf main_arg4
  let main_cst_3 : FVec F S_ .f32 := constant S_ .f32 0x7F800000#32
  let main_v13 : FVec F S16x8x4096x128 .f32 := broadcastInDim S16x8x4096x128 ![] bcast_S_S16x8x4096x128 main_cst_3
  let main_v14 : IVec S16x8x4096x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Kernel.lean ====
abbrev S16x8x4096x128 : Shape := ⟨4, ![16, 8, 4096, 128]⟩
abbrev S16x8x256x128 : Shape := ⟨4, ![16, 8, 256, 128]⟩
abbrev S64 : Shape := ⟨1, ![64]⟩
abbrev S128 : Shape := ⟨1, ![128]⟩
abbrev S_ : Shape := ⟨0, ![]⟩
abbrev S1x64 : Shape := ⟨2, ![1, 64]⟩
abbrev S4x64 : Shape := ⟨2, ![4, 64]⟩
abbrev S128x1 : Shape := ⟨2, ![128, 1]⟩
abbrev S16x8x1x256x128 : Shape := ⟨5, ![16, 8, 1, 256, 128]⟩
abbrev S16x8x1x128x256 : Shape := ⟨5, ![16, 8, 1, 128, 256]⟩
abbrev S16x256 : Shape := ⟨2, ![16, 256]⟩
abbrev S16x8x1x16x256 : Shape := ⟨5, ![16, 8, 1, 16, 256]⟩
abbrev S16x8x1x144x256 : Shape := ⟨5, ![16, 8, 1, 144, 256]⟩
abbrev S16x8x8x512x128 : Shape := ⟨5, ![16, 8, 8, 512, 128]⟩
abbrev S16x8x8x128x512 : Shape := ⟨5, ![16, 8, 8, 128, 512]⟩
abbrev S16x512 : Shape := ⟨2, ![16, 512]⟩
abbrev S16x8x8x16x512 : Shape := ⟨5, ![16, 8, 8, 16, 512]⟩
abbrev S16x8x8x144x512 : Shape := ⟨5, ![16, 8, 8, 144, 512]⟩
abbrev S1x1x1024x128 : Shape := ⟨4, ![1, 1, 1024, 128]⟩
abbrev S1x1x256x128 : Shape := ⟨4, ![1, 1, 256, 128]⟩
abbrev S1x1x1x144x256 : Shape := ⟨5, ![1, 1, 1, 144, 256]⟩
abbrev S1x1x4096x128 : Shape := ⟨4, ![1, 1, 4096, 128]⟩
abbrev S1x1x8x144x512 : Shape := ⟨5, ![1, 1, 8, 144, 512]⟩
abbrev S1024x128 : Shape := ⟨2, ![1024, 128]⟩
abbrev S2048x128 : Shape := ⟨2, ![2048, 128]⟩
abbrev S144x2048 : Shape := ⟨2, ![144, 2048]⟩
abbrev S256x128 : Shape := ⟨2, ![256, 128]⟩
abbrev S256x2048 : Shape := ⟨2, ![256, 2048]⟩
abbrev S1x1x512x128 : Shape := ⟨4, ![1, 1, 512, 128]⟩
abbrev S512x128 : Shape := ⟨2, ![512, 128]⟩
abbrev S512x2048 : Shape := ⟨2, ![512, 2048]⟩
abbrev S144x256 : Shape := ⟨2, ![144, 256]⟩
abbrev S2048 : Shape := ⟨1, ![2048]⟩
abbrev S1x2048 : Shape := ⟨2, ![1, 2048]⟩
abbrev S1x1x1x144x512 : Shape := ⟨5, ![1, 1, 1, 144, 512]⟩
abbrev S144x512 : Shape := ⟨2, ![144, 512]⟩
abbrev S1 : Shape := ⟨1, ![1]⟩
abbrev S1x1 : Shape := ⟨2, ![1, 1]⟩
abbrev S128x2048 : Shape := ⟨2, ![128, 2048]⟩
abbrev S128x1024 : Shape := ⟨2, ![128, 1024]⟩
abbrev S1024 : Shape := ⟨1, ![1024]⟩
abbrev S1x1024 : Shape := ⟨2, ![1, 1024]⟩
abbrev S1x144x2048 : Shape := ⟨3, ![1, 144, 2048]⟩
abbrev S1x1x1 : Shape := ⟨3, ![1, 1, 1]⟩

abbrev nBuf : Space → Nat
  | .hbm => 49
  | .vmem => 14
  | .smem => 0
  | _ => 0

abbrev bufTy : (tb : Table) → Fin (tcTables nBuf tb) → BufTy
  | .hbm, ⟨0, _⟩ => ⟨S16x8x4096x128, .f32⟩
  | .hbm, ⟨1, _⟩ => ⟨S16x8x256x128, .f32⟩
  | .hbm, ⟨2, _⟩ => ⟨S16x8x256x128, .f32⟩
  | .hbm, ⟨3, _⟩ => ⟨S16x8x4096x128, .f32⟩
  | .hbm, ⟨4, _⟩ => ⟨S16x8x4096x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x8x4096x128, .f32⟩
  | .hbm, ⟨16, _⟩ => ⟨S16x8x4096x128, .f32⟩
  | .hbm, ⟨17, _⟩ => ⟨S16x8x4096x128, .bf16⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S128x1, .f32⟩
  | .hbm, ⟨24, _⟩ => ⟨S16x8x256x128, .bf16⟩
  | .hbm, ⟨25, _⟩ => ⟨S16x8x256x128, .bf16⟩
  | .hbm, ⟨26, _⟩ => ⟨S16x8x1x256x128, .bf16⟩
  | .hbm, ⟨27, _⟩ => ⟨S16x8x1x128x256, .bf16⟩
  | .hbm, ⟨28, _⟩ => ⟨S16x256, .i32⟩
  | .hbm, ⟨29, _⟩ => ⟨S_, .i32⟩
  | .hbm, ⟨30, _⟩ => ⟨S16x256, .i32⟩
  | .hbm, ⟨31, _⟩ => ⟨S16x256, .i1⟩
  | .hbm, ⟨32, _⟩ => ⟨S16x256, .f32⟩
  | .hbm, ⟨33, _⟩ => ⟨S16x256, .bf16⟩
  | .hbm, ⟨34, _⟩ => ⟨S16x8x1x16x256, .bf16⟩
  | .hbm, ⟨35, _⟩ => ⟨S16x8x1x144x256, .bf16⟩
  | .hbm, ⟨36, _⟩ => ⟨S16x8x4096x128, .bf16⟩
  | .hbm, ⟨37, _⟩ => ⟨S16x8x4096x128, .bf16⟩
  | .hbm, ⟨38, _⟩ => ⟨S16x8x8x512x128, .bf16⟩
  | .hbm, ⟨39, _⟩ => ⟨S16x8x8x128x512, .bf16⟩
  | .hbm, ⟨40, _⟩ => ⟨S16x512, .i32⟩
  | .hbm, ⟨41, _⟩ => ⟨S_, .i32⟩
  | .hbm, ⟨42, _⟩ => ⟨S16x512, .i32⟩
  | .hbm, ⟨43, _⟩ => ⟨S16x512, .i1⟩
  | .hbm, ⟨44, _⟩ => ⟨S16x512, .f32⟩
  | .hbm, ⟨45, _⟩ => ⟨S16x512, .bf16⟩
  | .hbm, ⟨46, _⟩ => ⟨S16x8x8x16x512, .bf16⟩
  | .hbm, ⟨47, _⟩ => ⟨S16x8x8x144x512, .bf16⟩
  | .hbm, ⟨48, _⟩ => ⟨S16x8x4096x128, .bf16⟩
  | .local _ .vmem, ⟨0, _⟩ => ⟨S4x64, .f32⟩
  | .local _ .vmem, ⟨1, _⟩ => ⟨S128x1, .f32⟩
  | .local _ .vmem, ⟨2, _⟩ => ⟨S1x1x1024x128, .bf16⟩
  | .local _ .vmem, ⟨3, _⟩ => ⟨S1x1x1024x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x1x1x144x256, .bf16⟩
  | .local _ .vmem, ⟨7, _⟩ => ⟨S1x1x1x144x256, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x8x144x512, .bf16⟩
  | .local _ .vmem, ⟨11, _⟩ => ⟨S1x1x8x144x512, .bf16⟩
  | .local _ .vmem, ⟨12, _⟩ => ⟨S1x1x1024x128, .bf16⟩
  | .local _ .vmem, ⟨13, _⟩ => ⟨S1x1x1024x128, .bf16⟩
  | _, _ => ⟨S16x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8x144x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16x8x4096x128 : Shape := ⟨4, ![16, 8, 4096, 128]⟩
abbrev S16x8x256x128 : Shape := ⟨4, ![16, 8, 256, 128]⟩
abbrev S64 : Shape := ⟨1, ![64]⟩
abbrev S128 : Shape := ⟨1, ![128]⟩
abbrev S_ : Shape := ⟨0, ![]⟩
abbrev S16x8x4352x128 : Shape := ⟨4, ![16, 8, 4352, 128]⟩
abbrev S16x8x4096x2x64 : Shape := ⟨5, ![16, 8, 4096, 2, 64]⟩
abbrev S16x8x2x4096x64 : Shape := ⟨5, ![16, 8, 2, 4096, 64]⟩
abbrev S16x8x4352x2x64 : Shape := ⟨5, ![16, 8, 4352, 2, 64]⟩
abbrev S16x8x2x4352x64 : Shape := ⟨5, ![16, 8, 2, 4352, 64]⟩
abbrev S16x8x2x4096x4352 : Shape := ⟨5, ![16, 8, 2, 4096, 4352]⟩
abbrev S16x8x2x4096 : Shape := ⟨4, ![16, 8, 2, 4096]⟩
abbrev S16x8x2x4096x1 : Shape := ⟨5, ![16, 8, 2, 4096, 1]⟩
abbrev S16x8x1x4096x4352 : Shape := ⟨5, ![16, 8, 1, 4096, 4352]⟩
abbrev S16x8x4096x4352 : Shape := ⟨4, ![16, 8, 4096, 4352]⟩
abbrev S16x8x4096 : Shape := ⟨3, ![16, 8, 4096]⟩
abbrev S16x8x4096x1 : Shape := ⟨4, ![16, 8, 4096, 1]⟩
abbrev S1x1x1x128 : Shape := ⟨4, ![1, 1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16x8x4096x128, .f32⟩
  | .hbm, ⟨1, _⟩ => ⟨S16x8x256x128, .f32⟩
  | .hbm, ⟨2, _⟩ => ⟨S16x8x256x128, .f32⟩
  | .hbm, ⟨3, _⟩ => ⟨S16x8x4096x128, .f32⟩
  | .hbm, ⟨4, _⟩ => ⟨S16x8x4096x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x8x4352x128, .f32⟩
  | .hbm, ⟨22, _⟩ => ⟨S16x8x4352x128, .f32⟩
  | .hbm, ⟨23, _⟩ => ⟨S16x8x4096x2x64, .f32⟩
  | .hbm, ⟨24, _⟩ => ⟨S16x8x2x4096x64, .f32⟩
  | .hbm, ⟨25, _⟩ => ⟨S16x8x4352x2x64, .f32⟩
  | .hbm, ⟨26, _⟩ => ⟨S16x8x2x4352x64, .f32⟩
  | .hbm, ⟨27, _⟩ => ⟨S16x8x2x4096x4352, .f32⟩
  | .hbm, ⟨28, _⟩ => ⟨S_, .f32⟩
  | .hbm, ⟨29, _⟩ => ⟨S16x8x2x4096x4352, .f32⟩
  | .hbm, ⟨30, _⟩ => ⟨S16x8x2x4096x4352, .f32⟩
  | .hbm, ⟨31, _⟩ => ⟨S_, .f32⟩
  | .hbm, ⟨32, _⟩ => ⟨S16x8x2x4096, .f32⟩
  | .hbm, ⟨33, _⟩ => ⟨S_, .f32⟩
  | .hbm, ⟨34, _⟩ => ⟨S16x8x2x4096, .f32⟩
  | .hbm, ⟨35, _⟩ => ⟨S16x8x2x4096, .f32⟩
  | .hbm, ⟨36, _⟩ => ⟨S16x8x2x4096x1, .f32⟩
  | .hbm, ⟨37, _⟩ => ⟨S16x8x2x4096x4352, .f32⟩
  | .hbm, ⟨38, _⟩ => ⟨S16x8x2x4096x4352, .f32⟩
  | .hbm, ⟨39, _⟩ => ⟨S16x8x2x4096x4352, .f32⟩
  | .hbm, ⟨40, _⟩ => ⟨S_, .f32⟩
  | .hbm, ⟨41, _⟩ => ⟨S16x8x2x4096, .f32⟩
  | .hbm, ⟨42, _⟩ => ⟨S16x8x2x4096x1, .f32⟩
  | .hbm, ⟨43, _⟩ => ⟨S16x8x2x4096x4352, .f32⟩
  | .hbm, ⟨44, _⟩ => ⟨S16x8x2x4096x4352, .f32⟩
  | .hbm, ⟨45, _⟩ => ⟨S16x8x1x4096x4352, .f32⟩
  | .hbm, ⟨46, _⟩ => ⟨S16x8x4096x4352, .f32⟩
  | .hbm, ⟨47, _⟩ => ⟨S16x8x1x4096x4352, .f32⟩
  | .hbm, ⟨48, _⟩ => ⟨S16x8x4096x4352, .f32⟩
  | .hbm, ⟨49, _⟩ => ⟨S16x8x4096x4352, .f32⟩
  | .hbm, ⟨50, _⟩ => ⟨S16x8x4096x4352, .f32⟩
  | .hbm, ⟨51, _⟩ => ⟨S16x8x4096x4352, .f32⟩
  | .hbm, ⟨52, _⟩ => ⟨S16x8x4096x128, .f32⟩
  | .hbm, ⟨53, _⟩ => ⟨S16x8x4096x128, .f32⟩
  | .hbm, ⟨54, _⟩ => ⟨S_, .f32⟩
  | .hbm, ⟨55, _⟩ => ⟨S16x8x4096, .f32⟩
  | .hbm, ⟨56, _⟩ => ⟨S16x8x4096x1, .f32⟩
  | .hbm, ⟨57, _⟩ => ⟨S_, .f32⟩
  | .hbm, ⟨58, _⟩ => ⟨S16x8x4096x1, .f32⟩
  | .hbm, ⟨59, _⟩ => ⟨S16x8x4096x1, .f32⟩
  | .hbm, ⟨60, _⟩ => ⟨S_, .f32⟩
  | .hbm, ⟨61, _⟩ => ⟨S16x8x4096x1, .f32⟩
  | .hbm, ⟨62, _⟩ => ⟨S16x8x4096x1, .f32⟩
  | .hbm, ⟨63, _⟩ => ⟨S16x8x4096x1, .f32⟩
  | .hbm, ⟨64, _⟩ => ⟨S16x8x4096x128, .f32⟩
  | .hbm, ⟨65, _⟩ => ⟨S16x8x4096x128, .f32⟩
  | .hbm, ⟨66, _⟩ => ⟨S1x1x1x128, .f32⟩
  | .hbm, ⟨67, _⟩ => ⟨S16x8x4096x128, .f32⟩
  | .hbm, ⟨68, _⟩ => ⟨S16x8x4096x128, .f32⟩
  | .hbm, ⟨69, _⟩ => ⟨S_, .f32⟩
  | .hbm, ⟨70, _⟩ => ⟨S16x8x4096x128, .f32⟩
  | .hbm, ⟨71, _⟩ => ⟨S16x8x4096x128, .f32⟩
  | .hbm, ⟨72, _⟩ => ⟨S16x8x4096x128, .bf16⟩
  | _, _ => ⟨S16x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Ffn.lean ====
abbrev S16x4096x1024 : Shape := ⟨3, ![16, 4096, 1024]⟩
abbrev S4x24x6144 : Shape := ⟨3, ![4, 24, 6144]⟩
abbrev S1024 : Shape := ⟨1, ![1024]⟩
abbrev S1024x5632 : Shape := ⟨2, ![1024, 5632]⟩
abbrev S2816x1024 : Shape := ⟨2, ![2816, 1024]⟩
abbrev S4x24x1x6144 : Shape := ⟨4, ![4, 24, 1, 6144]⟩
abbrev S1x1024 : Shape := ⟨2, ![1, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 12
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S4x24x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4x24x1x6144, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, arg0.toNat, c0_i32_0.toNat, c4_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, arg0.toNat, c0_i32_0.toNat, c3_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, arg0.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S16x4096x1024 : Shape := ⟨3, ![16, 4096, 1024]⟩
abbrev S4x24x6144 : Shape := ⟨3, ![4, 24, 6144]⟩
abbrev S1024 : Shape := ⟨1, ![1024]⟩
abbrev S1024x5632 : Shape := ⟨2, ![1024, 5632]⟩
abbrev S2816x1024 : Shape := ⟨2, ![2816, 1024]⟩
abbrev S1x16x3072 : Shape := ⟨3, ![1, 16, 3072]⟩
abbrev S16x3072 : Shape := ⟨2, ![16, 3072]⟩
abbrev S16x1x3072 : Shape := ⟨3, ![16, 1, 3072]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 68
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x24x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x16x3072, .f32⟩
  | .hbm, ⟨7, _⟩ => ⟨S16x3072, .f32⟩
  | .hbm, ⟨8, _⟩ => ⟨S16x1x3072, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x4096x1024, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x1, .f32⟩
  | .hbm, ⟨23, _⟩ => ⟨S16x4096x1024, .f32⟩
  | .hbm, ⟨24, _⟩ => ⟨S16x4096x1024, .f32⟩
  | .hbm, ⟨25, _⟩ => ⟨S1x1x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x1x1024, .f32⟩
  | .hbm, ⟨30, _⟩ => ⟨S16x1x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x5632, .f32⟩
  | .hbm, ⟨36, _⟩ => ⟨S16x4096x2816, .f32⟩
  | .hbm, ⟨37, _⟩ => ⟨S16x4096x2816, .f32⟩
  | .hbm, ⟨38, _⟩ => ⟨S16x4096x2816, .f32⟩
  | .hbm, ⟨39, _⟩ => ⟨S_, .f32⟩
  | .hbm, ⟨40, _⟩ => ⟨S16x4096x2816, .f32⟩
  | .hbm, ⟨41, _⟩ => ⟨S16x4096x2816, .f32⟩
  | .hbm, ⟨42, _⟩ => ⟨S_, .f32⟩
  | .hbm, ⟨43, _⟩ => ⟨S16x4096x2816, .f32⟩
  | .hbm, ⟨44, _⟩ => ⟨S16x4096x2816, .f32⟩
  | .hbm, ⟨45, _⟩ => ⟨S16x4096x2816, .f32⟩
  | .hbm, ⟨46, _⟩ => ⟨S16x4096x2816, .f32⟩
  | .hbm, ⟨47, _⟩ => ⟨S16x4096x2816, .f32⟩
  | .hbm, ⟨48, _⟩ => ⟨S16x4096x1024, .f32⟩
  | .hbm, ⟨49, _⟩ => ⟨S16x4096x1024, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S_, .f32⟩
  | .hbm, ⟨54, _⟩ => ⟨S16x4096x1, .f32⟩
  | .hbm, ⟨55, _⟩ => ⟨S16x4096x1, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S16x4096x1, .f32⟩
  | .hbm, ⟨60, _⟩ => ⟨S16x4096x1024, .f32⟩
  | .hbm, ⟨61, _⟩ => ⟨S16x4096x1024, .f32⟩
  | .hbm, ⟨62, _⟩ => ⟨S1x1x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Merge.lean ====
abbrev S16x4096x1024 : Shape := ⟨3, ![16, 4096, 1024]⟩
abbrev S4x24x6144 : Shape := ⟨3, ![4, 24, 6144]⟩
abbrev S1024 : Shape := ⟨1, ![1024]⟩
abbrev S16x4096x512 : Shape := ⟨3, ![16, 4096, 512]⟩
abbrev S16x8x4096x128 : Shape := ⟨4, ![16, 8, 4096, 128]⟩
abbrev S16x4096x3072 : Shape := ⟨3, ![16, 4096, 3072]⟩
abbrev S512x1024 : Shape := ⟨2, ![512, 1024]⟩
abbrev S1024x1024 : Shape := ⟨2, ![1024, 1024]⟩
abbrev S4x24x1x6144 : Shape := ⟨4, ![4, 24, 1, 6144]⟩
abbrev S1x1024 : Shape := ⟨2, ![1, 1024]⟩
abbrev S1x512x1024 : Shape := ⟨3, ![1, 512, 1024]⟩
abbrev S1x1x1x1024 : Shape := ⟨4, ![1, 1, 1, 1024]⟩
abbrev S1x512x512 : Shape := ⟨3, ![1, 512, 512]⟩
abbrev S1x8x512x128 : Shape := ⟨4, ![1, 8, 512, 128]⟩
abbrev S1x512x3072 : Shape := ⟨3, ![1, 512, 3072]⟩
abbrev S512x512 : Shape := ⟨2, ![512, 512]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S4x24x6144, .f32⟩
  | .hbm, ⟨2, _⟩ => ⟨S1024, .f32⟩
  | .hbm, ⟨3, _⟩ => ⟨S16x4096x512, .bf16⟩
  | .hbm, ⟨4, _⟩ => ⟨S16x8x4096x128, .bf16⟩
  | .hbm, ⟨5, _⟩ => ⟨S16x4096x512, .bf16⟩
  | .hbm, ⟨6, _⟩ => ⟨S16x4096x3072, .bf16⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S4x24x1x6144, .f32⟩
  | .hbm, ⟨12, _⟩ => ⟨S1x1024, .f32⟩
  | .hbm, ⟨13, _⟩ => ⟨S512x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1024, .f32⟩
  | .local _ .vmem, ⟨5, _⟩ => ⟨S1x512x512, .bf16⟩
  | .local _ .vmem, ⟨6, _⟩ => ⟨S1x512x512, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x3072, .bf16⟩
  | .local _ .vmem, ⟨12, _⟩ => ⟨S1x512x3072, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, arg0.toNat, c0_i32_0.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16x4096x1024 : Shape := ⟨3, ![16, 4096, 1024]⟩
abbrev S4x24x6144 : Shape := ⟨3, ![4, 24, 6144]⟩
abbrev S1024 : Shape := ⟨1, ![1024]⟩
abbrev S16x4096x512 : Shape := ⟨3, ![16, 4096, 512]⟩
abbrev S16x8x4096x128 : Shape := ⟨4, ![16, 8, 4096, 128]⟩
abbrev S16x4096x3072 : Shape := ⟨3, ![16, 4096, 3072]⟩
abbrev S512x1024 : Shape := ⟨2, ![512, 1024]⟩
abbrev S1024x1024 : Shape := ⟨2, ![1024, 1024]⟩
abbrev S1x16x1024 : Shape := ⟨3, ![1, 16, 1024]⟩
abbrev S16x1024 : Shape := ⟨2, ![16, 1024]⟩
abbrev S16x1x1024 : Shape := ⟨3, ![16, 1, 1024]⟩
abbrev S16x4096x8x128 : Shape := ⟨4, ![16, 4096, 8, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x24x6144, .f32⟩
  | .hbm, ⟨2, _⟩ => ⟨S1024, .f32⟩
  | .hbm, ⟨3, _⟩ => ⟨S16x4096x512, .bf16⟩
  | .hbm, ⟨4, _⟩ => ⟨S16x8x4096x128, .bf16⟩
  | .hbm, ⟨5, _⟩ => ⟨S16x4096x512, .bf16⟩
  | .hbm, ⟨6, _⟩ => ⟨S16x4096x3072, .bf16⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S1024x1024, .f32⟩
  | .hbm, ⟨11, _⟩ => ⟨S1x16x1024, .f32⟩
  | .hbm, ⟨12, _⟩ => ⟨S16x1024, .f32⟩
  | .hbm, ⟨13, _⟩ => ⟨S16x1x1024, .f32⟩
  | .hbm, ⟨14, _⟩ => ⟨S16x4096x512, .f32⟩
  | .hbm, ⟨15, _⟩ => ⟨S16x8x4096x128, .f32⟩
  | .hbm, ⟨16, _⟩ => ⟨S16x4096x512, .f32⟩
  | .hbm, ⟨17, _⟩ => ⟨S16x4096x3072, .f32⟩
  | .hbm, ⟨18, _⟩ => ⟨S16x4096x1024, .f32⟩
  | .hbm, ⟨19, _⟩ => ⟨S16x4096x8x128, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S_, .f32⟩
  | .hbm, ⟨37, _⟩ => ⟨S16x4096x1, .f32⟩
  | .hbm, ⟨38, _⟩ => ⟨S16x4096x1, .f32⟩
  | .hbm, ⟨39, _⟩ => ⟨S_, .f32⟩
  | .hbm, ⟨40, _⟩ => ⟨S16x4096x1, .f32⟩
  | .hbm, ⟨41, _⟩ => ⟨S16x4096x1, .f32⟩
  | .hbm, ⟨42, _⟩ => ⟨S16x4096x1, .f32⟩
  | .hbm, ⟨43, _⟩ => ⟨S16x4096x1024, .f32⟩
  | .hbm, ⟨44, _⟩ => ⟨S16x4096x1024, .f32⟩
  | .hbm, ⟨45, _⟩ => ⟨S1x1x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Inproj.lean ====
abbrev S16x4096x1024 : Shape := ⟨3, ![16, 4096, 1024]⟩
abbrev S4x24x6144 : Shape := ⟨3, ![4, 24, 6144]⟩
abbrev S1024 : Shape := ⟨1, ![1024]⟩
abbrev S1024x7680 : Shape := ⟨2, ![1024, 7680]⟩
abbrev S3072 : Shape := ⟨1, ![3072]⟩
abbrev S4x24x1x6144 : Shape := ⟨4, ![4, 24, 1, 6144]⟩
abbrev S1024x3072 : Shape := ⟨2, ![1024, 3072]⟩
abbrev S1024x3584 : Shape := ⟨2, ![1024, 3584]⟩
abbrev S1024x6656 : Shape := ⟨2, ![1024, 6656]⟩
abbrev S1024x1024 : Shape := ⟨2, ![1024, 1024]⟩
abbrev S1x1024 : Shape := ⟨2, ![1, 1024]⟩
abbrev S1x3072 : Shape := ⟨2, ![1, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S4096x1 : Shape := ⟨2, ![4096, 1]⟩
abbrev S4096x128 : Shape := ⟨2, ![4096, 128]⟩
abbrev S16x4096x512 : Shape := ⟨3, ![16, 4096, 512]⟩
abbrev S16x8x4096x128 : Shape := ⟨4, ![16, 8, 4096, 128]⟩
abbrev S16x8x8x144x512 : Shape := ⟨5, ![16, 8, 8, 144, 512]⟩
abbrev S16x4096x3072 : Shape := ⟨3, ![16, 4096, 3072]⟩
abbrev S1x512x1024 : Shape := ⟨3, ![1, 512, 1024]⟩
abbrev S1x1x1x1024 : Shape := ⟨4, ![1, 1, 1, 1024]⟩
abbrev S512x128 : Shape := ⟨2, ![512, 128]⟩
abbrev S1x512x512 : Shape := ⟨3, ![1, 512, 512]⟩
abbrev S1x8x512x128 : Shape := ⟨4, ![1, 8, 512, 128]⟩
abbrev S1x8x1x144x512 : Shape := ⟨5, ![1, 8, 1, 144, 512]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩
abbrev S1024x512 : Shape := ⟨2, ![1024, 512]⟩
abbrev S16x512 : Shape := ⟨2, ![16, 512]⟩
abbrev S128x512 : Shape := ⟨2, ![128, 512]⟩
abbrev S1x1x1x128x512 : Shape := ⟨5, ![1, 1, 1, 128, 512]⟩
abbrev S1x1x1x16x512 : Shape := ⟨5, ![1, 1, 1, 16, 512]⟩

abbrev nBuf : Space → Nat
  | .hbm => 150
  | .vmem => 28
  | .smem => 0
  | _ => 0

abbrev hbmTy0_0 (i : Nat) : BufTy := match i % 128 with
  | 0 => ⟨S16x4096x1024, .f32⟩
  | 1 => ⟨S4x24x6144, .f32⟩
  | 2 => ⟨S1024, .f32⟩
  | 3 => ⟨S1024x7680, .f32⟩
  | 4 => ⟨S3072, .f32⟩
  | 5 => ⟨S4x24x1x6144, .f32⟩
  | 6 => ⟨S1024x3072, .f32⟩
  | 7 => ⟨S1024x3584, .f32⟩
  | 8 => ⟨S1024x6656, .f32⟩
  | 9 => ⟨S1024x6656, .bf16⟩
  | 10 => ⟨S1024x1024, .f32⟩
  | 11 => ⟨S1024x1024, .f32⟩
  | 12 => ⟨S1024x1024, .bf16⟩
  | 13 => ⟨S1x1024, .f32⟩
  | 14 => ⟨S1x3072, .f32⟩
  | 15 => ⟨S64, .i32⟩
  | 16 => ⟨S64x64, .i32⟩
  | 17 => ⟨S4096, .i32⟩
  | 18 => ⟨S4096, .f32⟩
  | 19 => ⟨S64, .i32⟩
  | 20 => ⟨S1x64, .i32⟩
  | 21 => ⟨S64x64, .i32⟩
  | 22 => ⟨S4096, .i32⟩
  | 23 => ⟨S4096, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S128, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S128, .i32⟩
  | 52 => ⟨S128, .i1⟩
  | 53 => ⟨S_, .i32⟩
  | 54 => ⟨S_, .i1⟩
  | 55 => ⟨S128, .i1⟩
  | 56 => ⟨S128, .i1⟩
  | 57 => ⟨S128, .i1⟩
  | 58 => ⟨S128, .i32⟩
  | 59 => ⟨S128, .i32⟩
  | 60 => ⟨S128, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S128, .i32⟩
  | 68 => ⟨S128, .i32⟩
  | 69 => ⟨S_, .i32⟩
  | 70 => ⟨S128, .i32⟩
  | 71 => ⟨S128, .i1⟩
  | 72 => ⟨S_, .i32⟩
  | 73 => ⟨S128, .i32⟩
  | 74 => ⟨S128, .i1⟩
  | 75 => ⟨S_, .i32⟩
  | 76 => ⟨S_, .i1⟩
  | 77 => ⟨S128, .i1⟩
  | 78 => ⟨S128, .i1⟩
  | 79 => ⟨S128, .i1⟩
  | 80 => ⟨S128, .i32⟩
  | 81 => ⟨S128, .i32⟩
  | 82 => ⟨S128, .i32⟩
  | 83 => ⟨S_, .i32⟩
  | 84 => ⟨S128, .i32⟩
  | 85 => ⟨S128, .i1⟩
  | 86 => ⟨S_, .i32⟩
  | 87 => ⟨S128, .i32⟩
  | 88 => ⟨S128, .i32⟩
  | 89 => ⟨S128, .i32⟩
  | 90 => ⟨S128x1, .i32⟩
  | 91 => ⟨S128, .f32⟩
  | 92 => ⟨S_, .i32⟩
  | 93 => ⟨S128, .i32⟩
  | 94 => ⟨S128, .i1⟩
  | 95 => ⟨S1x128, .i1⟩
  | 96 => ⟨S4096x1, .f32⟩
  | 97 => ⟨S4096x1, .f32⟩
  | 98 => ⟨S4096x128, .i1⟩
  | 99 => ⟨S4096x128, .f32⟩
  | 100 => ⟨S4096x128, .f32⟩
  | 101 => ⟨S4096x128, .f32⟩
  | 102 => ⟨S1x128, .f32⟩
  | 103 => ⟨S4096x128, .f32⟩
  | 104 => ⟨S4096x128, .f32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S128, .i32⟩
  | 112 => ⟨S128, .i32⟩
  | 113 => ⟨S_, .i32⟩
  | 114 => ⟨S128, .i32⟩
  | 115 => ⟨S128, .i1⟩
  | 116 => ⟨S_, .i32⟩
  | 117 => ⟨S128, .i32⟩
  | 118 => ⟨S128, .i1⟩
  | 119 => ⟨S_, .i32⟩
  | 120 => ⟨S_, .i1⟩
  | 121 => ⟨S128, .i1⟩
  | 122 => ⟨S128, .i1⟩
  | 123 => ⟨S128, .i1⟩
  | 124 => ⟨S128, .i32⟩
  | 125 => ⟨S128, .i32⟩
  | 126 => ⟨S128, .i32⟩
  | 127 => ⟨S_, .i32⟩
  | _ => ⟨S16x4096x1024, .f32⟩

abbrev hbmTy0_1 (i : Nat) : BufTy := match i % 128 with
  | 0 => ⟨S128, .i32⟩
  | 1 => ⟨S128, .i1⟩
  | 2 => ⟨S1x128, .i1⟩
  | 3 => ⟨S4096x128, .f32⟩
  | 4 => ⟨S4096x128, .f32⟩
  | 5 => ⟨S4096x128, .f32⟩
  | 6 => ⟨S_, .f32⟩
  | 7 => ⟨S_, .f32⟩
  | 8 => ⟨S4096x128, .i1⟩
  | 9 => ⟨S4096x128, .f32⟩
  | 10 => ⟨S4096x128, .f32⟩
  | 11 => ⟨S_, .f32⟩
  | 12 => ⟨S_, .f32⟩
  | 13 => ⟨S4096x128, .i1⟩
  | 14 => ⟨S4096x128, .f32⟩
  | 15 => ⟨S4096x128, .f32⟩
  | 16 => ⟨S16x4096x512, .f32⟩
  | 17 => ⟨S16x8x4096x128, .bf16⟩
  | 18 => ⟨S16x8x4096x128, .bf16⟩
  | 19 => ⟨S16x8x8x144x512, .bf16⟩
  | 20 => ⟨S16x4096x512, .f32⟩
  | 21 => ⟨S16x4096x3072, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x6656, .bf16⟩
  | .local _ .vmem, ⟨8, _⟩ => ⟨S1024x1024, .bf16⟩
  | .local _ .vmem, ⟨9, _⟩ => ⟨S1x3072, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512x512, .f32⟩
  | .local _ .vmem, ⟨17, _⟩ => ⟨S1x512x512, .f32⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S1x8x1x144x512, .bf16⟩
  | .local _ .vmem, ⟨23, _⟩ => ⟨S1x8x1x144x512, .bf16⟩
  | .local _ .vmem, ⟨24, _⟩ => ⟨S1x512x512, .f32⟩
  | .local _ .vmem, ⟨25, _⟩ => ⟨S1x512x512, .f32⟩
  | .local _ .vmem, ⟨26, _⟩ => ⟨S1x512x3072, .bf16⟩
  | .local _ .vmem, ⟨27, _⟩ => ⟨S1x512x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v30 : Ref sig .tc := ⟨.hbm, 60, rfl⟩
abbrev main_c_3 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_v5 : Ref sig .tc := ⟨.hbm, 70, rfl⟩
abbrev main_call1_v6 : Ref sig .tc := ⟨.hbm, 71, rfl⟩
abbrev main_call1_c_2 : Ref sig .tc := ⟨.hbm, 72, rfl⟩
abbrev main_call1_v7 : Ref sig .tc := ⟨.hbm, 73, rfl⟩
abbrev main_call1_v8 : Ref sig .tc := ⟨.hbm, 74, rfl⟩
abbrev main_call1_c_3 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_v31 : Ref sig .tc := ⟨.hbm, 82, rfl⟩
abbrev main_c_4 : Ref sig .tc := ⟨.hbm, 83, rfl⟩
abbrev main_v32 : Ref sig .tc := ⟨.hbm, 84, rfl⟩
abbrev main_v33 : Ref sig .tc := ⟨.hbm, 85, rfl⟩
abbrev main_c_5 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_c_6 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_c_7 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_v5 : Ref sig .tc := ⟨.hbm, 114, rfl⟩
abbrev main_call3_v6 : Ref sig .tc := ⟨.hbm, 115, rfl⟩
abbrev main_call3_c_2 : Ref sig .tc := ⟨.hbm, 116, rfl⟩
abbrev main_call3_v7 : Ref sig .tc := ⟨.hbm, 117, rfl⟩
abbrev main_call3_v8 : Ref sig .tc := ⟨.hbm, 118, rfl⟩
abbrev main_call3_c_3 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_v48 : Ref sig .tc := ⟨.hbm, 126, rfl⟩
abbrev main_c_8 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_cst_9 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v55 : Ref sig .tc := ⟨.hbm, 138, rfl⟩
abbrev main_cst_10 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v56 : Ref sig .tc := ⟨.hbm, 143, rfl⟩
abbrev main_v57_0 : Ref sig .tc := ⟨.hbm, 144, rfl⟩
abbrev main_v57_1 : Ref sig .tc := ⟨.hbm, 145, rfl⟩
abbrev main_v57_2 : Ref sig .tc := ⟨.hbm, 146, rfl⟩
abbrev main_v57_3 : Ref sig .tc := ⟨.hbm, 147, rfl⟩
abbrev main_v57_4 : Ref sig .tc := ⟨.hbm, 148, rfl⟩
abbrev main_v57_5 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, arg0.toNat, c0_i32_0.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1x144x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InprojRefIdeal.lean ====
abbrev S16x4096x1024 : Shape := ⟨3, ![16, 4096, 1024]⟩
abbrev S4x24x6144 : Shape := ⟨3, ![4, 24, 6144]⟩
abbrev S1024 : Shape := ⟨1, ![1024]⟩
abbrev S1024x7680 : Shape := ⟨2, ![1024, 7680]⟩
abbrev S3072 : Shape := ⟨1, ![3072]⟩
abbrev S1x16x2048 : Shape := ⟨3, ![1, 16, 2048]⟩
abbrev S16x2048 : Shape := ⟨2, ![16, 2048]⟩
abbrev S16x1x2048 : Shape := ⟨3, ![16, 1, 2048]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16 : Shape := ⟨1, ![16]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x16 : Shape := ⟨2, ![1, 16]⟩
abbrev S4096x16 : Shape := ⟨2, ![4096, 16]⟩
abbrev S1x4096x1x1x16 : Shape := ⟨5, ![1, 4096, 1, 1, 16]⟩
abbrev S1024x1024 : Shape := ⟨2, ![1024, 1024]⟩
abbrev S16x4096x512 : Shape := ⟨3, ![16, 4096, 512]⟩
abbrev S16x4096x8x2x64 : Shape := ⟨5, ![16, 4096, 8, 2, 64]⟩
abbrev S16x4096x8x2x32 : Shape := ⟨5, ![16, 4096, 8, 2, 32]⟩
abbrev S16x4096x8x2x16 : Shape := ⟨5, ![16, 4096, 8, 2, 16]⟩
abbrev S16x4096x8x128 : Shape := ⟨4, ![16, 4096, 8, 128]⟩
abbrev S16x8x4096x128 : Shape := ⟨4, ![16, 8, 4096, 128]⟩
abbrev S16x8x512x8x128 : Shape := ⟨5, ![16, 8, 512, 8, 128]⟩
abbrev S16x8x8x128x512 : Shape := ⟨5, ![16, 8, 8, 128, 512]⟩
abbrev S16x8x8x1x512 : Shape := ⟨5, ![16, 8, 8, 1, 512]⟩
abbrev S16x8x8x15x512 : Shape := ⟨5, ![16, 8, 8, 15, 512]⟩
abbrev S16x8x8x144x512 : Shape := ⟨5, ![16, 8, 8, 144, 512]⟩
abbrev S1024x512 : Shape := ⟨2, ![1024, 512]⟩
abbrev S1024x3072 : Shape := ⟨2, ![1024, 3072]⟩
abbrev S16x4096x3072 : Shape := ⟨3, ![16, 4096, 3072]⟩
abbrev S1x1x3072 : Shape := ⟨3, ![1, 1, 3072]⟩

abbrev nBuf : Space → Nat
  | .hbm => 196
  | .vmem => 0
  | .smem => 0
  | _ => 0

abbrev hbmTy0_0 (i : Nat) : BufTy := match i % 128 with
  | 0 => ⟨S16x4096x1024, .f32⟩
  | 1 => ⟨S4x24x6144, .f32⟩
  | 2 => ⟨S1024, .f32⟩
  | 3 => ⟨S1024x7680, .f32⟩
  | 4 => ⟨S3072, .f32⟩
  | 5 => ⟨S1x16x2048, .f32⟩
  | 6 => ⟨S16x2048, .f32⟩
  | 7 => ⟨S16x1x2048, .f32⟩
  | 8 => ⟨S16x1x1024, .f32⟩
  | 9 => ⟨S16x1x1024, .f32⟩
  | 10 => ⟨S16x4096x1024, .f32⟩
  | 11 => ⟨S_, .f32⟩
  | 12 => ⟨S16x4096, .f32⟩
  | 13 => ⟨S16x4096x1, .f32⟩
  | 14 => ⟨S_, .f32⟩
  | 15 => ⟨S16x4096x1, .f32⟩
  | 16 => ⟨S16x4096x1, .f32⟩
  | 17 => ⟨S_, .f32⟩
  | 18 => ⟨S16x4096x1, .f32⟩
  | 19 => ⟨S16x4096x1, .f32⟩
  | 20 => ⟨S16x4096x1, .f32⟩
  | 21 => ⟨S16x4096x1024, .f32⟩
  | 22 => ⟨S16x4096x1024, .f32⟩
  | 23 => ⟨S1x1x1024, .f32⟩
  | 24 => ⟨S16x4096x1024, .f32⟩
  | 25 => ⟨S16x4096x1024, .f32⟩
  | 26 => ⟨S_, .f32⟩
  | 27 => ⟨S16x1x1024, .f32⟩
  | 28 => ⟨S16x1x1024, .f32⟩
  | 29 => ⟨S16x4096x1024, .f32⟩
  | 30 => ⟨S16x4096x1024, .f32⟩
  | 31 => ⟨S16x4096x1024, .f32⟩
  | 32 => ⟨S16x4096x1024, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S64, .i32⟩
  | 48 => ⟨S64x64, .i32⟩
  | 49 => ⟨S4096, .i32⟩
  | 50 => ⟨S4096, .f32⟩
  | 51 => ⟨S64, .i32⟩
  | 52 => ⟨S1x64, .i32⟩
  | 53 => ⟨S64x64, .i32⟩
  | 54 => ⟨S4096, .i32⟩
  | 55 => ⟨S4096, .f32⟩
  | 56 => ⟨S4096x1, .f32⟩
  | 57 => ⟨S1x16, .f32⟩
  | 58 => ⟨S4096x16, .f32⟩
  | 59 => ⟨S4096x16, .f32⟩
  | 60 => ⟨S4096x16, .f32⟩
  | 61 => ⟨S1x4096x1x1x16, .f32⟩
  | 62 => ⟨S4096x1, .f32⟩
  | 63 => ⟨S1x16, .f32⟩
  | 64 => ⟨S4096x16, .f32⟩
  | 65 => ⟨S4096x16, .f32⟩
  | 66 => ⟨S4096x16, .f32⟩
  | 67 => ⟨S1x4096x1x1x16, .f32⟩
  | 68 => ⟨S1024x1024, .f32⟩
  | 69 => ⟨S16x4096x1024, .f32⟩
  | 70 => ⟨S16x4096x512, .f32⟩
  | 71 => ⟨S16x4096x512, .f32⟩
  | 72 => ⟨S16x4096x512, .f32⟩
  | 73 => ⟨S16x4096x512, .f32⟩
  | 74 => ⟨S_, .f32⟩
  | 75 => ⟨S16x4096x512, .f32⟩
  | 76 => ⟨S16x4096x512, .f32⟩
  | 77 => ⟨S_, .f32⟩
  | 78 => ⟨S16x4096x512, .f32⟩
  | 79 => ⟨S16x4096x512, .f32⟩
  | 80 => ⟨S16x4096x512, .f32⟩
  | 81 => ⟨S1024x1024, .f32⟩
  | 82 => ⟨S16x4096x1024, .f32⟩
  | 83 => ⟨S16x4096x8x2x64, .f32⟩
  | 84 => ⟨S16x4096x8x2x32, .f32⟩
  | 85 => ⟨S16x4096x8x2x16, .f32⟩
  | 86 => ⟨S16x4096x8x2x16, .f32⟩
  | 87 => ⟨S1x4096x1x1x16, .f32⟩
  | 88 => ⟨S16x4096x8x2x16, .f32⟩
  | 89 => ⟨S16x4096x8x2x16, .f32⟩
  | 90 => ⟨S1x4096x1x1x16, .f32⟩
  | 91 => ⟨S16x4096x8x2x16, .f32⟩
  | 92 => ⟨S16x4096x8x2x16, .f32⟩
  | 93 => ⟨S16x4096x8x2x16, .f32⟩
  | 94 => ⟨S1x4096x1x1x16, .f32⟩
  | 95 => ⟨S16x4096x8x2x16, .f32⟩
  | 96 => ⟨S16x4096x8x2x16, .f32⟩
  | 97 => ⟨S1x4096x1x1x16, .f32⟩
  | 98 => ⟨S16x4096x8x2x16, .f32⟩
  | 99 => ⟨S16x4096x8x2x16, .f32⟩
  | 100 => ⟨S16x4096x8x2x16, .f32⟩
  | 101 => ⟨S16x4096x8x2x32, .f32⟩
  | 102 => ⟨S16x4096x8x2x32, .f32⟩
  | 103 => ⟨S16x4096x8x2x16, .f32⟩
  | 104 => ⟨S16x4096x8x2x16, .f32⟩
  | 105 => ⟨S1x4096x1x1x16, .f32⟩
  | 106 => ⟨S16x4096x8x2x16, .f32⟩
  | 107 => ⟨S16x4096x8x2x16, .f32⟩
  | 108 => ⟨S1x4096x1x1x16, .f32⟩
  | 109 => ⟨S16x4096x8x2x16, .f32⟩
  | 110 => ⟨S16x4096x8x2x16, .f32⟩
  | 111 => ⟨S16x4096x8x2x16, .f32⟩
  | 112 => ⟨S1x4096x1x1x16, .f32⟩
  | 113 => ⟨S16x4096x8x2x16, .f32⟩
  | 114 => ⟨S16x4096x8x2x16, .f32⟩
  | 115 => ⟨S1x4096x1x1x16, .f32⟩
  | 116 => ⟨S16x4096x8x2x16, .f32⟩
  | 117 => ⟨S16x4096x8x2x16, .f32⟩
  | 118 => ⟨S16x4096x8x2x16, .f32⟩
  | 119 => ⟨S16x4096x8x2x32, .f32⟩
  | 120 => ⟨S16x4096x8x2x64, .f32⟩
  | 121 => ⟨S16x4096x8x128, .f32⟩
  | 122 => ⟨S16x8x4096x128, .f32⟩
  | 123 => ⟨S_, .f32⟩
  | 124 => ⟨S16x8x4096x128, .f32⟩
  | 125 => ⟨S16x8x4096x128, .f32⟩
  | 126 => ⟨S1024x1024, .f32⟩
  | 127 => ⟨S16x4096x1024, .f32⟩
  | _ => ⟨S16x4096x1024, .f32⟩

abbrev hbmTy0_1 (i : Nat) : BufTy := match i % 128 with
  | 0 => ⟨S16x4096x8x2x64, .f32⟩
  | 1 => ⟨S16x4096x8x2x32, .f32⟩
  | 2 => ⟨S16x4096x8x2x16, .f32⟩
  | 3 => ⟨S16x4096x8x2x16, .f32⟩
  | 4 => ⟨S1x4096x1x1x16, .f32⟩
  | 5 => ⟨S16x4096x8x2x16, .f32⟩
  | 6 => ⟨S16x4096x8x2x16, .f32⟩
  | 7 => ⟨S1x4096x1x1x16, .f32⟩
  | 8 => ⟨S16x4096x8x2x16, .f32⟩
  | 9 => ⟨S16x4096x8x2x16, .f32⟩
  | 10 => ⟨S16x4096x8x2x16, .f32⟩
  | 11 => ⟨S1x4096x1x1x16, .f32⟩
  | 12 => ⟨S16x4096x8x2x16, .f32⟩
  | 13 => ⟨S16x4096x8x2x16, .f32⟩
  | 14 => ⟨S1x4096x1x1x16, .f32⟩
  | 15 => ⟨S16x4096x8x2x16, .f32⟩
  | 16 => ⟨S16x4096x8x2x16, .f32⟩
  | 17 => ⟨S16x4096x8x2x16, .f32⟩
  | 18 => ⟨S16x4096x8x2x32, .f32⟩
  | 19 => ⟨S16x4096x8x2x32, .f32⟩
  | 20 => ⟨S16x4096x8x2x16, .f32⟩
  | 21 => ⟨S16x4096x8x2x16, .f32⟩
  | 22 => ⟨S1x4096x1x1x16, .f32⟩
  | 23 => ⟨S16x4096x8x2x16, .f32⟩
  | 24 => ⟨S16x4096x8x2x16, .f32⟩
  | 25 => ⟨S1x4096x1x1x16, .f32⟩
  | 26 => ⟨S16x4096x8x2x16, .f32⟩
  | 27 => ⟨S16x4096x8x2x16, .f32⟩
  | 28 => ⟨S16x4096x8x2x16, .f32⟩
  | 29 => ⟨S1x4096x1x1x16, .f32⟩
  | 30 => ⟨S16x4096x8x2x16, .f32⟩
  | 31 => ⟨S16x4096x8x2x16, .f32⟩
  | 32 => ⟨S1x4096x1x1x16, .f32⟩
  | 33 => ⟨S16x4096x8x2x16, .f32⟩
  | 34 => ⟨S16x4096x8x2x16, .f32⟩
  | 35 => ⟨S16x4096x8x2x16, .f32⟩
  | 36 => ⟨S16x4096x8x2x32, .f32⟩
  | 37 => ⟨S16x4096x8x2x64, .f32⟩
  | 38 => ⟨S16x4096x8x128, .f32⟩
  | 39 => ⟨S16x8x4096x128, .f32⟩
  | 40 => ⟨S1024x1024, .f32⟩
  | 41 => ⟨S16x4096x1024, .f32⟩
  | 42 => ⟨S16x8x512x8x128, .f32⟩
  | 43 => ⟨S16x8x8x128x512, .f32⟩
  | 44 => ⟨S_, .f32⟩
  | 45 => ⟨S16x8x8x1x512, .f32⟩
  | 46 => ⟨S_, .f32⟩
  | 47 => ⟨S16x8x8x15x512, .f32⟩
  | 48 => ⟨S16x8x8x144x512, .f32⟩
  | 49 => ⟨S1024x512, .f32⟩
  | 50 => ⟨S16x4096x512, .f32⟩
  | 51 => ⟨S1024x3072, .f32⟩
  | 52 => ⟨S16x4096x3072, .f32⟩
  | 53 => ⟨S1x1x3072, .f32⟩
  | 54 => ⟨S16x4096x3072, .f32⟩
  | 55 => ⟨S16x4096x3072, .f32⟩
  | 56 => ⟨S16x4096x3072, .f32⟩
  | 57 => ⟨S16x4096x3072, .f32⟩
  | 58 => ⟨S_, .f32⟩
  | 59 => ⟨S16x4096x3072, .f32⟩
  | 60 => ⟨S16x4096x3072, .f32⟩
  | 61 => ⟨S_, .f32⟩
  | 62 => ⟨S16x4096x3072, .f32⟩
  | 63 => ⟨S16x4096x3072, .f32⟩
  | 64 => ⟨S16x8x4096x128, .bf16⟩
  | 65 => ⟨S16x8x4096x128, .bf16⟩
  | 66 => ⟨S16x8x8x144x512, .bf16⟩
  | 67 => ⟨S16x4096x3072, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_9 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_10 : Ref sig .tc := ⟨.hbm, 172, rfl⟩
abbrev main_v156 : Ref sig .tc := ⟨.hbm, 173, rfl⟩
abbrev main_cst_11 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_cst_12 : Ref sig .tc := ⟨.hbm, 186, rfl⟩
abbrev main_v168 : Ref sig .tc := ⟨.hbm, 187, rfl⟩
abbrev main_v169 : Ref sig .tc := ⟨.hbm, 188, rfl⟩
abbrev main_cst_13 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩

abbrev nD : Nat := 1
abbrev τ : Topo := Topo.v7x

variable {F : FTy → Type} [FloatOps F]
-- ==== Proof.KernelIdealBody.lean ====
/-
  The attention body, run once: what one grid point leaves in the output block, from the seven blocks it reads.

  The body first takes the optimistic pass (one score bound, from the context keys), stores its result, then looks
  whether that pass overflowed; where it did, it takes the exact online pass and stores over the first result.
-/
module

public import proofs.«01_k».proof.Proof.Gen.KernelIdeal.Skeleton
public import proofs.«01_k».proof.Proof.Gen.KernelIdeal.Frame

@[expose] public section

noncomputable section

namespace Cert.Proof.KernelIdealAttn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loads -/

/-- Keys `512 j … 512 j + 511` of the block of latent keys. -/
def kld (x5 : Vec F S1x1x4096x128 .bf16) (n : ℕ) (h : ∀ a, (![0, 0, n, 0] : Fin 4 → ℕ) a + S1x1x512x128.size a ≤ S1x1x4096x128.size a) :
    Vec F S1x1x512x128 .bf16 :=
  View.ld x5 (Rect.unit (s := S1x1x4096x128) ![0, 0, n, 0] S1x1x512x128.size h)

/-- Chunk `j` of the block of transposed latent values. -/
def vld (x6 : Vec F S1x1x8x144x512 .bf16) (n : ℕ) (h : ∀ a, (![0, 0, n, 0, 0] : Fin 5 → ℕ) a + S1x1x1x144x512.size a ≤ S1x1x8x144x512.size a) :
    Vec F S1x1x1x144x512 .bf16 :=
  View.ld x6 (Rect.unit (s := S1x1x8x144x512) ![0, 0, n, 0, 0] S1x1x1x144x512.size h)

abbrev rLam : Rect S4x64 := Rect.unit (s := S4x64) ![0, 0] S4x64.size inb_S4x64_S4x64_0_0
abbrev rGain : Rect S128x1 := Rect.unit (s := S128x1) ![0, 0] S128x1.size inb_S128x1_S128x1_0_0
abbrev rQ : Rect S1x1x1024x128 := Rect.unit (s := S1x1x1024x128) ![0, 0, 0, 0] S1x1x1024x128.size inb_S1x1x1024x128_S1x1x1024x128_0_0_0_0
abbrev rKc : Rect S1x1x256x128 := Rect.unit (s := S1x1x256x128) ![0, 0, 0, 0] S1x1x256x128.size inb_S1x1x256x128_S1x1x256x128_0_0_0_0
abbrev rVc : Rect S1x1x1x144x256 := Rect.unit (s := S1x1x1x144x256) ![0, 0, 0, 0, 0] S1x1x1x144x256.size inb_S1x1x1x144x256_S1x1x1x144x256_0_0_0_0_0

/-! ## The optimistic pass -/

section Pass

variable (x0 : Vec F S4x64 .f32) (x1 : Vec F S128x1 .f32) (x2 : Vec F S1x1x1024x128 .bf16) (x3 : Vec F S1x1x256x128 .bf16)
  (x4 : Vec F S1x1x1x144x256 .bf16) (x5 : Vec F S1x1x4096x128 .bf16) (x6 : Vec F S1x1x8x144x512 .bf16)

/-- The two halves of the queries, one above the other. -/
def queries : FVec F S2048x128 .bf16 := k0_pay30 (View.ld x2 rQ)

/-- The score bound the optimistic pass keeps: each query's largest score among the context keys. -/
def bound : FVec F S1x2048 .f32 := k0_pay36 (View.ld x2 rQ) (View.ld x3 rKc)

/-- The accumulator after the context keys and chunks 0 and 1, -/
def acc1 : FVec F S144x2048 .f32 :=
  k0_pay40 (k0_pay31 (F := F)) (k0_pay32 (View.ld x2 rQ) (View.ld x3 rKc))
    (k0_pay33 (View.ld x2 rQ) (kld x5 0 inb_S1x1x4096x128_S1x1x512x128_0_0_0_0))
    (k0_pay34 (View.ld x2 rQ) (kld x5 512 inb_S1x1x4096x128_S1x1x512x128_0_0_512_0))
    (k0_pay35 (View.ld x4 rVc)) (bound x2 x3) (k0_pay37 (View.ld x2 rQ) (View.ld x3 rKc))
    (vld x6 0 inb_S1x1x8x144x512_S1x1x1x144x512_0_0_0_0_0) (vld x6 1 inb_S1x1x8x144x512_S1x1x1x144x512_0_0_1_0_0)

/-- after chunks 2, 3 and 4, -/
def acc4 : FVec F S144x2048 .f32 :=
  k0_pay44 (bound x2 x3) (k0_pay38 (queries x2) (kld x5 1024 inb_S1x1x4096x128_S1x1x512x128_0_0_1024_0))
    (k0_pay39 (queries x2) (kld x5 1536 inb_S1x1x4096x128_S1x1x512x128_0_0_1536_0)) (acc1 x2 x3 x4 x5 x6)
    (k0_pay41 (queries x2) (kld x5 2048 inb_S1x1x4096x128_S1x1x512x128_0_0_2048_0))
    (vld x6 2 inb_S1x1x8x144x512_S1x1x1x144x512_0_0_2_0_0) (vld x6 3 inb_S1x1x8x144x512_S1x1x1x144x512_0_0_3_0_0)
    (vld x6 4 inb_S1x1x8x144x512_S1x1x1x144x512_0_0_4_0_0)

/-- and after them all. -/
def acc : FVec F S144x2048 .f32 :=
  k0_pay45 (queries x2) (bound x2 x3) (k0_pay42 (queries x2) (kld x5 2560 inb_S1x1x4096x128_S1x1x512x128_0_0_2560_0))
    (k0_pay43 (queries x2) (kld x5 3072 inb_S1x1x4096x128_S1x1x512x128_0_0_3072_0)) (acc4 x2 x3 x4 x5 x6)
    (kld x5 3584 inb_S1x1x4096x128_S1x1x512x128_0_0_3584_0) (vld x6 5 inb_S1x1x8x144x512_S1x1x1x144x512_0_0_5_0_0)
    (vld x6 6 inb_S1x1x8x144x512_S1x1x1x144x512_0_0_6_0_0) (vld x6 7 inb_S1x1x8x144x512_S1x1x1x144x512_0_0_7_0_0)

/-- What the optimistic pass stores. -/
def fast : FVec F S1x1x1024x128 .bf16 :=
  k0_pay49 (acc x2 x3 x4 x5 x6) (k0_pay47 (View.ld x0 rLam)) (k0_pay48 (View.ld x0 rLam)) (View.ld x1 rGain)

/-- The body's test: an element of the accumulator is not finite. -/
def Overflowed : Prop :=
  Scalar.cmpi .ne (Scalar.extui (Scalar.xori (Scalar.cmpf .oeq (k0_pay50 (acc x2 x3 x4 x5 x6)) (Scalar.ofBits .f32 0x00000000#32 : F .f32)) 1#1) : BitVec 32) 0#32 = 1#1

instance : Decidable (Overflowed x2 x3 x4 x5 x6) := by unfold Overflowed; infer_instance

/-! ## The exact pass -/

/-- The running score bound after the context keys, -/
def m0 : FVec F S1x2048 .f32 := k0_pay6 (queries x2) (View.ld x3 rKc)
/-- after chunks 0 and 1, -/
def m1 : FVec F S1x2048 .f32 :=
  k0_pay11 (k0_pay4 (queries x2) (kld x5 0 inb_S1x1x4096x128_S1x1x512x128_0_0_0_0))
    (k0_pay5 (queries x2) (kld x5 512 inb_S1x1x4096x128_S1x1x512x128_0_0_512_0)) (m0 x2 x3)
/-- after chunks 2 and 3, -/
def m3 : FVec F S1x2048 .f32 :=
  k0_pay16 (k0_pay8 (queries x2) (kld x5 1024 inb_S1x1x4096x128_S1x1x512x128_0_0_1024_0))
    (k0_pay10 (queries x2) (kld x5 1536 inb_S1x1x4096x128_S1x1x512x128_0_0_1536_0)) (m1 x2 x3 x5)
/-- and after chunks 4 and 5. -/
def m5 : FVec F S1x2048 .f32 :=
  k0_pay21 (k0_pay13 (queries x2) (kld x5 2048 inb_S1x1x4096x128_S1x1x512x128_0_0_2048_0))
    (k0_pay15 (queries x2) (kld x5 2560 inb_S1x1x4096x128_S1x1x512x128_0_0_2560_0)) (m3 x2 x3 x5)

/-- The running accumulator after chunks 0 and 1, -/
def e1 : FVec F S144x2048 .f32 :=
  k0_pay12 (k0_pay4 (queries x2) (kld x5 0 inb_S1x1x4096x128_S1x1x512x128_0_0_0_0))
    (k0_pay5 (queries x2) (kld x5 512 inb_S1x1x4096x128_S1x1x512x128_0_0_512_0)) (m0 x2 x3)
    (k0_pay7 (queries x2) (View.ld x3 rKc) (View.ld x4 rVc))
    (vld x6 0 inb_S1x1x8x144x512_S1x1x1x144x512_0_0_0_0_0) (vld x6 1 inb_S1x1x8x144x512_S1x1x1x144x512_0_0_1_0_0)
/-- after chunks 2 and 3, -/
def e3 : FVec F S144x2048 .f32 :=
  k0_pay17 (k0_pay8 (queries x2) (kld x5 1024 inb_S1x1x4096x128_S1x1x512x128_0_0_1024_0))
    (k0_pay10 (queries x2) (kld x5 1536 inb_S1x1x4096x128_S1x1x512x128_0_0_1536_0)) (m1 x2 x3 x5) (e1 x2 x3 x4 x5 x6)
    (vld x6 2 inb_S1x1x8x144x512_S1x1x1x144x512_0_0_2_0_0) (vld x6 3 inb_S1x1x8x144x512_S1x1x1x144x512_0_0_3_0_0)
/-- and after chunks 4 and 5. -/
def e5 : FVec F S144x2048 .f32 :=
  k0_pay22 (k0_pay13 (queries x2) (kld x5 2048 inb_S1x1x4096x128_S1x1x512x128_0_0_2048_0))
    (k0_pay15 (queries x2) (kld x5 2560 inb_S1x1x4096x128_S1x1x512x128_0_0_2560_0)) (m3 x2 x3 x5) (e3 x2 x3 x4 x5 x6)
    (vld x6 4 inb_S1x1x8x144x512_S1x1x1x144x512_0_0_4_0_0) (vld x6 5 inb_S1x1x8x144x512_S1x1x1x144x512_0_0_5_0_0)
/-- The scores of chunks 6 and 7. -/
def s6 : FVec F S512x2048 .f32 := k0_pay18 (queries x2) (kld x5 3072 inb_S1x1x4096x128_S1x1x512x128_0_0_3072_0)
def s7 : FVec F S512x2048 .f32 := k0_pay20 (queries x2) (kld x5 3584 inb_S1x1x4096x128_S1x1x512x128_0_0_3584_0)

/-- What the exact pass stores: chunks 6 and 7 folded in, then the same finish. -/
def slow : FVec F S1x1x1024x128 .bf16 :=
  k0_pay1 (k0_pay26 (View.ld x0 rLam))
    (k0_pay27 (s6 x2 x5) (s7 x2 x5) (m5 x2 x3 x5) (e5 x2 x3 x4 x5 x6)
      (k0_pay23 (vld x6 6 inb_S1x1x8x144x512_S1x1x1x144x512_0_0_6_0_0)) (k0_pay24 (s6 x2 x5))
      (vld x6 7 inb_S1x1x8x144x512_S1x1x1x144x512_0_0_7_0_0))
    (k0_pay28 (s6 x2 x5) (s7 x2 x5) (m5 x2 x3 x5) (e5 x2 x3 x4 x5 x6)
      (k0_pay23 (vld x6 6 inb_S1x1x8x144x512_S1x1x1x144x512_0_0_6_0_0)) (k0_pay24 (s6 x2 x5))
      (vld x6 7 inb_S1x1x8x144x512_S1x1x1x144x512_0_0_7_0_0))
    (k0_pay29 (F := F)) (View.ld x1 rGain)

/-! ## What the body leaves -/

/-- The output block after the body: the optimistic result, or the exact one stored over it. -/
def out : Vec F S1x1x1024x128 .bf16 :=
  if Overflowed x2 x3 x4 x5 x6 then View.canon [⟨rQ, slow x0 x1 x2 x3 x4 x5 x6⟩, ⟨rQ, fast x0 x1 x2 x3 x4 x5 x6⟩]
  else View.canon [⟨rQ, fast x0 x1 x2 x3 x4 x5 x6⟩]

end Pass

/-- One store through the whole block covers it, -/
theorem cover1 (p : Vec F S1x1x1024x128 .bf16) (y : S1x1x1024x128.Idx) :
    ∃ pc ∈ ([⟨rQ, p⟩] : List (View.Piece (Elt F) S1x1x1024x128 .bf16)), y ∈ pc.1.set :=
  View.cover_of_tiled [⟨rQ, p⟩] S1x1x1024x128.size (by rfl) y

/-- and so do two. -/
theorem cover2 (p q : Vec F S1x1x1024x128 .bf16) (y : S1x1x1024x128.Idx) :
    ∃ pc ∈ ([⟨rQ, p⟩, ⟨rQ, q⟩] : List (View.Piece (Elt F) S1x1x1024x128 .bf16)), y ∈ pc.1.set := by
  obtain ⟨pc, hpc, hy⟩ := cover1 p y
  exact ⟨pc, List.mem_cons.2 (.inl (List.mem_singleton.1 hpc)), hy⟩

set_option maxHeartbeats 4000000 in
/-- The body, from the seven input blocks and the output buffer at anything, returns the inputs as they were and the
    output buffer at `out` of them, whichever way its test goes. -/
theorem runs (c : Dev nD) (E : Set ℕ) (i : grid0.Coords)
    (arg3 : Memref sig .tc .vmem S4x64 .f32) (harg3 : arg3.IsWhole) (arg4 : Memref sig .tc .vmem S128x1 .f32) (harg4 : arg4.IsWhole)
    (arg5 : Memref sig .tc .vmem S1x1x1024x128 .bf16) (harg5 : arg5.IsWhole) (arg6 : Memref sig .tc .vmem S1x1x256x128 .bf16) (harg6 : arg6.IsWhole)
    (arg7 : Memref sig .tc .vmem S1x1x1x144x256 .bf16) (harg7 : arg7.IsWhole) (arg8 : Memref sig .tc .vmem S1x1x4096x128 .bf16) (harg8 : arg8.IsWhole)
    (arg9 : Memref sig .tc .vmem S1x1x8x144x512 .bf16) (harg9 : arg9.IsWhole) (arg10 : Memref sig .tc .vmem S1x1x1024x128 .bf16) (harg10 : arg10.IsWhole)
    (x0 : Vec F S4x64 .f32) (x1 : Vec F S128x1 .f32) (x2 : Vec F S1x1x1024x128 .bf16) (x3 : Vec F S1x1x256x128 .bf16)
    (x4 : Vec F S1x1x1x144x256 .bf16) (x5 : Vec F S1x1x4096x128 .bf16) (x6 : Vec F S1x1x8x144x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (out x0 x1 x2 x3 x4 x5 x6)) -∗ K ⟨⟩))
      ⊢ wp frame (wpE (defs₀ (F := F)) Variants.none c none) E
          (cc0_attn_lat i arg3 harg3 arg4 harg4 arg5 harg5 arg6 harg6 arg7 harg7 arg8 harg8 arg9 harg9 arg10 harg10) K := by
  simp only [cc0_attn_lat_eq_skeleton]; unfold cc0_attn_lat_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  split
  · next h =>
    have hc : Overflowed (F := F) (arg5.view.read (Elt F) f2) (arg6.view.read (Elt F) f3) (arg7.view.read (Elt F) f4)
      (arg8.view.read (Elt F) f5) (arg9.view.read (Elt F) f6) := h
    refine (View.read_writes_eq_canon (Val := Elt F) _ _ _ (cover2 (F := F) _ _)).trans ?_
    unfold out; rw [if_pos hc]
    rfl
  · next h =>
    have hc : ¬Overflowed (F := F) (arg5.view.read (Elt F) f2) (arg6.view.read (Elt F) f3) (arg7.view.read (Elt F) f4)
      (arg8.view.read (Elt F) f5) (arg9.view.read (Elt F) f6) := h
    refine (View.read_writes_eq_canon (Val := Elt F) _ _ _ (cover1 (F := F) _)).trans ?_
    unfold out; rw [if_neg hc]
    rfl

end Cert.Proof.KernelIdealAttn

end
-- ==== Proof.KernelIdealFrame.lean ====
/-
  The attention launch: the body at every grid point, the run of the whole grid, and the frame.
-/
module

public import proofs.«01_k».proof.Proof.KernelIdealBody
public import Idealize.ShloMosaic.Lib.Claim

@[expose] public section

noncomputable section

namespace Cert.Proof.KernelIdealAttn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block point `t` leaves, from the seven input blocks there. -/
def outAt (c : Dev nD) (t : Fin cfg0.N) : Vec F S1x1x1024x128 .bf16 :=
  out (iblk m c 0 t) (iblk m c 1 t) (iblk m c 2 t) (iblk m c 3 t) (iblk m c 4 t) (iblk m c 5 t) (iblk m c 6 t)

/-- The proof data: every array as the launch finds it, every input block left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The arrays of the proof data are those the launch finds. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d
theorem before_5 (c : Dev nD) (t : Fin cfg0.N) (d) : (dats m 0 c).before 5 t d = iblk m c 5 t := before0_5_of m _ (A_eq m c 5) (after_5 m c) t d
theorem before_6 (c : Dev nD) (t : Fin cfg0.N) (d) : (dats m 0 c).before 6 t d = iblk m c 6 t := before0_6_of m _ (A_eq m c 6) (after_6 m c) t d

/-- What the body is entered with at point `t`, window by window, -/
def entry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def exit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs hold their blocks, so `runs` applies. -/
theorem at_point (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runs c Set.univ (grid0.coords t) _ _ _ _ _ _ _ _ _ _ _ _ _ _ _ _ (iblk m c 0 t) (iblk m c 1 t) (iblk m c 2 t)
    (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the launch calls at point `t` is the printed one. -/
theorem row (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
set_option maxHeartbeats 800000 in
/-- The launch: every execution ends, with every array at what the proof data gives and every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_zero m ρ)

/-- The frame: every argument ends as it was launched and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_zero m ρ))

end Cert.Proof.KernelIdealAttn

end
-- ==== Proof.AttnSpec.lean ====
/-
  Differential attention of one query row, as plain mathematics: two softmaxes over all keys, the second taken off the
  first by a factor, a root-mean-square norm with gain. Scores, weights and means are real; the norm is read over the
  extended reals, as a gain is any.
-/
module

public import Idealize.ShloMosaic.Lib.Pointwise

@[expose] public section

noncomputable section

namespace Cert.Proof.AttnSpec

open Idealize.ShloMosaic

/-- Lane `d` of half `p` of a row of 128. -/
def half (p : Fin 2) (d : Fin 64) : Fin 128 := ⟨64 * p.val + d.val, by omega⟩

/-- The score of key `k` in half `p`: the dot product over the half's 64 lanes, over 8. -/
def score (q : Fin 128 → ℝ) (K : Fin 4352 → Fin 128 → ℝ) (p : Fin 2) (k : Fin 4352) : ℝ :=
  (∑ d, q (half p d) * K k (half p d)) * (1 / 8)

/-- The softmax mean of the values under real scores `s`. -/
def mean {κ : Type} [Fintype κ] (s V : κ → ℝ) : ℝ := (∑ k, Real.exp (s k) * V k) / ∑ k, Real.exp (s k)

/-- The norm over the 128 lanes, with gain, and the constant 0.8 as its float word. -/
def finish (o g : Fin 128 → EReal) (v : Fin 128) : EReal :=
  o v * Ideal.rsqrt (Ideal.div (∑ w, o w * o w) (Ideal.ofBits .f32 0x43000000#32) + Ideal.ofBits .f32 0x358637BD#32) * g v
    * Ideal.ofBits .f32 0x3F4CCCCD#32

/-- The difference of the two softmax means. -/
def diff (q : Fin 128 → ℝ) (K V : Fin 4352 → Fin 128 → ℝ) (lam : ℝ) (v : Fin 128) : ℝ :=
  mean (score q K 0) (fun k => V k v) - lam * mean (score q K 1) (fun k => V k v)

/-- The attention of one query row. -/
def row (q : Fin 128 → ℝ) (K V : Fin 4352 → Fin 128 → ℝ) (lam : ℝ) (g : Fin 128 → EReal) (v : Fin 128) : EReal :=
  finish (fun v => (diff q K V lam v : EReal)) g v

/-- The factor of the second softmax, from the four vectors. -/
def lambda (a b c d : Fin 64 → EReal) : EReal :=
  Ideal.exp (∑ x, a x * b x) - Ideal.exp (∑ x, c x * d x) + Ideal.ofBits .f32 0x3E4CCCCD#32

section Real

variable {κ : Type} [Fintype κ]

/-- A sum of reals, read in the extended reals. -/
theorem sum_real (f : κ → ℝ) : ∑ k, (f k : EReal) = ((∑ k, f k : ℝ) : EReal) :=
  (map_sum (⟨⟨fun r : ℝ => (r : EReal), EReal.coe_zero⟩, EReal.coe_add⟩ : ℝ →+ EReal) f Finset.univ).symm

/-- A sum of products of reals, read in the extended reals. -/
theorem dot_real (f g : κ → ℝ) : ∑ k, (f k : EReal) * (g k : EReal) = ((∑ k, f k * g k : ℝ) : EReal) := by
  rw [← sum_real]
  simp only [EReal.coe_mul]

/-- The maximum of finitely many reals, taken from −∞, is real. -/
theorem max_real [Nonempty κ] (f : κ → ℝ) : ∃ M : ℝ, Finset.univ.fold max (⊥ : EReal) (fun k => (f k : EReal)) = (M : EReal) := by
  obtain ⟨j, _, hj⟩ := Finset.exists_max_image Finset.univ f Finset.univ_nonempty
  exact ⟨f j, le_antisymm (Finset.fold_max_le _ |>.2 ⟨bot_le, fun k hk => EReal.coe_le_coe_iff.2 (hj k hk)⟩)
    (Finset.le_fold_max _ |>.2 (Or.inr ⟨j, Finset.mem_univ j, le_rfl⟩))⟩

variable [Nonempty κ]

/-- A sum of exponentials is positive. -/
theorem sum_exp_pos (s : κ → ℝ) : 0 < ∑ k, Real.exp (s k) :=
  Finset.sum_pos (fun _ _ => Real.exp_pos _) Finset.univ_nonempty

/-- A shift of all scores leaves the mean. -/
theorem mean_shift (s V : κ → ℝ) (M : ℝ) : mean (fun k => s k - M) V = mean s V := by
  unfold mean
  simp only [Real.exp_sub, div_mul_eq_mul_div, ← Finset.sum_div]
  exact div_div_div_cancel_right₀ (Real.exp_pos M).ne' _ _

/-- The mean as a sum of weights times values. -/
theorem mean_weights (s V : κ → ℝ) : mean s V = ∑ k, Real.exp (s k) / (∑ j, Real.exp (s j)) * V k := by
  unfold mean
  rw [Finset.sum_div]
  exact Finset.sum_congr rfl fun k _ => by ring

/-- Powers of two of `s / log 2 − M`, values and their sum's reciprocal: the softmax mean under `s`. -/
theorem mean_pow (s V : κ → ℝ) (M : ℝ) :
    (∑ k, (V k : EReal) * Ideal.exp2 (((s k / Real.log 2 : ℝ) : EReal) - (M : EReal)))
        * Ideal.div 1 (∑ k, 1 * Ideal.exp2 (((s k / Real.log 2 : ℝ) : EReal) - (M : EReal))) = (mean s V : EReal) := by
  have h2 : Real.log 2 ≠ 0 := (Real.log_pos one_lt_two).ne'
  have he : ∀ k, Ideal.exp2 (((s k / Real.log 2 : ℝ) : EReal) - (M : EReal)) = ((Real.exp (s k - M * Real.log 2) : ℝ) : EReal) := fun k => by
    rw [← EReal.coe_sub, Ideal.exp2_coe]
    congr 1
    show (2 : ℝ) ^ (s k / Real.log 2 - M) = _
    rw [Real.rpow_def_of_pos two_pos]
    congr 1
    field_simp
  simp only [he, one_mul, dot_real, sum_real]
  have hp := sum_exp_pos fun k => s k - M * Real.log 2
  rw [Ideal.div_coe hp.ne', one_mul, ← EReal.coe_mul, ← mean_shift s V (M * Real.log 2)]
  unfold mean
  simp only [mul_comm (V _), mul_one_div]

/-- The weights of two softmaxes, each shifted by a bound, the second taken off the first by `lam`, applied to the values. -/
theorem weights_diff (s t V : κ → ℝ) (M N lam : ℝ) :
    ∑ k, (Ideal.div (Ideal.exp ((s k : EReal) - (M : EReal))) (∑ j, Ideal.exp ((s j : EReal) - (M : EReal)))
        - (lam : EReal) * Ideal.div (Ideal.exp ((t k : EReal) - (N : EReal))) (∑ j, Ideal.exp ((t j : EReal) - (N : EReal)))) * (V k : EReal)
      = ((mean s V - lam * mean t V : ℝ) : EReal) := by
  have hs := sum_exp_pos fun k => s k - M
  have ht := sum_exp_pos fun k => t k - N
  simp only [← EReal.coe_sub, Ideal.exp_coe, sum_real, Ideal.div_coe hs.ne', Ideal.div_coe ht.ne', ← EReal.coe_mul]
  rw [← mean_shift s V M, ← mean_shift t V N, mean_weights, mean_weights, Finset.mul_sum, ← Finset.sum_sub_distrib]
  congr 1
  exact Finset.sum_congr rfl fun k _ => by ring

end Real

/-- A row whose difference is written otherwise. -/
theorem finish_congr {o o' : Fin 128 → EReal} (h : ∀ v, o v = o' v) (g : Fin 128 → EReal) (v : Fin 128) : finish o g v = finish o' g v := by
  rw [funext h]

/-- All 4352 keys: the 256 of the context, then eight chunks of 512. -/
theorem sum_keys (f : Fin 4352 → EReal) :
    ∑ k, f k = ∑ k : Fin 256, f ⟨k, by omega⟩ + ∑ c : Fin 8, ∑ k : Fin 512, f ⟨256 + (512 * c + k), by omega⟩ := by
  rw [Fin.sum_univ_add (a := 256) (b := 4096) f]
  congr 1
  rw [← (finProdFinEquiv (m := 8) (n := 512)).sum_comp, Fintype.sum_prod_type]
  refine Finset.sum_congr rfl fun c _ => Finset.sum_congr rfl fun k _ => ?_
  congr 1
  apply Fin.ext
  show 256 + (k.val + 512 * c.val) = 256 + (512 * c.val + k.val)
  omega

end Cert.Proof.AttnSpec
-- ==== Proof.AttnBlock.lean ====
/-
  What the attention body leaves in its output block, at an index. With real queries, keys and values it is the
  differential attention of the query row: the optimistic pass never reads as overflowed, its shift of the scores
  cancels, its powers of two are exponentials of the scores, and its row of ones sums the weights.
-/
module

public import proofs.«01_k».proof.Proof.AttnSpec
public import proofs.«01_k».proof.Proof.KernelIdealBody
public import Idealize.ShloMosaic.Lib.Pipeline.ValueKit
public import Idealize.ShloMosaic.Lib.Pointwise

@[expose] public section

set_option maxRecDepth 16384

noncomputable section

namespace Cert.Proof.AttnBlock

open Cert.KernelIdeal Cert.KernelIdeal.Gen Cert.Proof.KernelIdealAttn
open Idealize.ShloMosaic Idealize.ShloMosaic.TcCoe Idealize.SL.Sem

variable (x0 : Vec Ideal S4x64 .f32) (x1 : Vec Ideal S128x1 .f32) (x2 : Vec Ideal S1x1x1024x128 .bf16)
  (x3 : Vec Ideal S1x1x256x128 .bf16) (x4 : Vec Ideal S1x1x1x144x256 .bf16) (x5 : Vec Ideal S1x1x4096x128 .bf16)
  (x6 : Vec Ideal S1x1x8x144x512 .bf16)

/-- The key rows in one: the context's, then the latent ones. -/
def keys (k : Fin 4352) (d : Fin 128) : EReal :=
  if h : k.val < 256 then x3 (ix4 0 0 ⟨k, h⟩ d) else x5 (ix4 0 0 ⟨k - 256, by omega⟩ d)

/-- The transposed values (144 rows) in one: the context's, then the eight chunks'. -/
def vals (k : Fin 4352) (v : Fin 144) : EReal :=
  if h : k.val < 256 then x4 (ix5 0 0 0 v ⟨k, h⟩) else x6 (ix5 0 0 ⟨(k - 256) / 512, by omega⟩ v ⟨(k - 256) % 512, by omega⟩)

/-- The body's score of key `k` for row `j` of the stacked query halves. -/
def score (j : Fin 2048) (k : Fin 4352) : EReal := ∑ d, keys x3 x5 k d * queries x2 (ix2 j d)

theorem keys_ctx (k : Fin 256) (d : Fin 128) : keys x3 x5 ⟨k, by omega⟩ d = x3 (ix4 0 0 k d) := dif_pos k.isLt

theorem keys_lat (n : Fin 4096) (d : Fin 128) : keys x3 x5 ⟨256 + n, by omega⟩ d = x5 (ix4 0 0 n d) := by
  unfold keys
  rw [dif_neg (by show ¬ 256 + n.val < 256; omega)]
  congr 2
  exact Fin.ext (by show 256 + n.val - 256 = n.val; omega)

theorem vals_ctx (k : Fin 256) (v : Fin 144) : vals x4 x6 ⟨k, by omega⟩ v = x4 (ix5 0 0 0 v k) := dif_pos k.isLt

theorem vals_lat (c : Fin 8) (k : Fin 512) (v : Fin 144) : vals x4 x6 ⟨256 + (512 * c + k), by omega⟩ v = x6 (ix5 0 0 c v k) := by
  unfold vals
  rw [dif_neg (by show ¬ 256 + (512 * c.val + k.val) < 256; omega)]
  congr 2
  · exact Fin.ext (by show (256 + (512 * c.val + k.val) - 256) / 512 = c.val; omega)
  · exact Fin.ext (by show (256 + (512 * c.val + k.val) - 256) % 512 = k.val; omega)

/-- A row of the stacked halves: the query's lanes of that half, the other lanes zero. -/
theorem queries_at (p : Fin 2) (r : Fin 1024) (d : Fin 128) :
    queries x2 (ix2 ⟨1024 * p + r, by omega⟩ d) = if d.val / 64 = p.val then x2 (ix4 0 0 r d) else 0 := by
  unfold queries
  pointwise [k0_pay30, rQ]
  have hm : (FloatOps.sitofp (F := Ideal) FTy.f32 (BitVec.setWidth 32 (IntOp.cmpi .slt (BitVec.ofNat 32 d) 64#32)) : EReal)
      = if d.val / 64 = 0 then 1 else 0 := by
    have h : ∀ d : Fin 128, BitVec.setWidth 32 (IntOp.cmpi .slt (BitVec.ofNat 32 d) 64#32) = if d.val / 64 = 0 then 1#32 else 0#32 := by
      decide +kernel
    show (((BitVec.setWidth 32 (IntOp.cmpi .slt (BitVec.ofNat 32 d) 64#32)).toInt : ℝ) : EReal) = _
    rw [h d]
    split <;> simp
  rw [hm]
  have hd : d.val / 64 = 0 ∨ d.val / 64 = 1 := by omega
  match p with
  | 0 =>
    rw [dif_pos (by show 1024 * 0 + r.val < 1024; omega)]
    simp only [Fin.val_zero, mul_zero, zero_add, mul_ite, mul_one]
  | 1 =>
    rw [dif_neg (by show ¬ 1024 * 1 + r.val < 1024; omega)]
    refine (congrArg₂ (· * ·) (congrArg (fun r => (x2 (ix4 0 0 r d) : EReal))
      (Fin.ext (by show 1024 * 1 + r.val - 1024 = r.val; omega) : _ = r)) rfl).trans ?_
    show x2 (ix4 0 0 r d) * ((1 : EReal) - if d.val / 64 = 0 then 1 else 0) = if d.val / 64 = 1 then x2 (ix4 0 0 r d) else 0
    rcases hd with h | h
    · rw [if_pos h, if_neg (by rw [h]; decide), ← EReal.coe_one, ← EReal.coe_sub, sub_self, EReal.coe_zero, mul_zero]
    · rw [if_neg (by rw [h]; decide), if_pos h, sub_zero, mul_one]

/-- The bound is the largest of the context keys' scores. -/
theorem bound_at (j : Fin 2048) :
    bound x2 x3 (ix2 0 j) = Finset.univ.fold max ⊥ fun k : Fin 256 => score x2 x3 x5 j ⟨k, by omega⟩ := by
  have hb : Ideal.ofBits .f32 4286578688#32 = (⊥ : EReal) := by simp [Ideal.ofBits, Ideal.ieee]
  unfold score
  simp only [keys_ctx]
  unfold bound queries
  generalize hQ : k0_pay30 (View.ld x2 rQ) = Q
  unfold k0_pay36 k0_pay32
  rw [hQ]
  pointwise [rKc]
  rw [hb]

/-- The accumulator: every row of the values under the shifted powers of two of the scores. -/
theorem acc_at (v : Fin 144) (j : Fin 2048) :
    acc x2 x3 x4 x5 x6 (ix2 v j) = ∑ k, vals x4 x6 k v * Ideal.exp2 (score x2 x3 x5 j k - bound x2 x3 (ix2 0 j)) := by
  rw [AttnSpec.sum_keys]
  simp only [Fin.sum_univ_eight, vals_ctx, vals_lat, score, keys_ctx]
  have hl : ∀ (c : Fin 8) (k : Fin 512) (d : Fin 128), keys x3 x5 ⟨256 + (512 * c + k), by omega⟩ d = x5 (ix4 0 0 ⟨512 * c + k, by omega⟩ d) :=
    fun c k d => keys_lat x3 x5 ⟨512 * c + k, by omega⟩ d
  simp only [hl]
  unfold acc acc4 acc1 bound queries
  generalize hQ : k0_pay30 (View.ld x2 rQ) = Q
  generalize hB : k0_pay36 (View.ld x2 rQ) (View.ld x3 rKc) = B
  unfold k0_pay37 k0_pay32 k0_pay33 k0_pay34
  rw [hQ, hB]
  pointwise [k0_pay45, k0_pay44, k0_pay40, k0_pay31, k0_pay35, k0_pay38, k0_pay39, k0_pay41, k0_pay42, k0_pay43, kld, vld, rKc, rVc]
  simp only [add_assoc]
  rfl

/-- What the body stores of query row `r`, from the accumulator. -/
theorem fast_at (r : Fin 1024) (v : Fin 128) :
    fast x0 x1 x2 x3 x4 x5 x6 (ix4 0 0 r v) = AttnSpec.finish (fun v =>
      acc x2 x3 x4 x5 x6 (ix2 ⟨v, by omega⟩ ⟨r, by omega⟩) * Ideal.div 1 (acc x2 x3 x4 x5 x6 (ix2 128 ⟨r, by omega⟩))
        - AttnSpec.lambda (fun x => x0 (ix2 0 x)) (fun x => x0 (ix2 1 x)) (fun x => x0 (ix2 2 x)) (fun x => x0 (ix2 3 x))
          * (acc x2 x3 x4 x5 x6 (ix2 ⟨v, by omega⟩ ⟨1024 + r, by omega⟩) * Ideal.div 1 (acc x2 x3 x4 x5 x6 (ix2 128 ⟨1024 + r, by omega⟩))))
      (fun v => x1 (ix2 v 0)) v := by
  unfold fast
  generalize acc x2 x3 x4 x5 x6 = A
  pointwise [k0_pay49, k0_pay48, k0_pay47, k0_pay46, rLam, rGain]
  rfl

/-- The test for overflow fails: zero times an extended real is zero. -/
theorem not_overflowed : ¬ Overflowed x2 x3 x4 x5 x6 := by
  unfold Overflowed
  generalize acc x2 x3 x4 x5 x6 = A
  have h : k0_pay50 A = 0 := by
    pointwise [k0_pay50]
    simp
  have h0 : (Scalar.ofBits .f32 0x00000000#32 : Ideal .f32) = 0 := Ideal.ofBits_zero_f32
  rw [h, h0]
  have hc : Scalar.cmpf (F := Ideal) (φ := .f32) .oeq 0 0 = 1#1 := by simp [Ideal.cmp]
  rw [hc]
  decide

/-- So the body's block is the optimistic result. -/
theorem out_at (r : Fin 1024) (v : Fin 128) :
    KernelIdealAttn.out x0 x1 x2 x3 x4 x5 x6 (ix4 0 0 r v) = fast x0 x1 x2 x3 x4 x5 x6 (ix4 0 0 r v) := by
  unfold KernelIdealAttn.out
  rw [if_neg (not_overflowed x2 x3 x4 x5 x6)]
  generalize fast x0 x1 x2 x3 x4 x5 x6 = P
  rw [View.canon_cons_unit_lit]
  decide

section Row

variable {q : Fin 128 → ℝ} {K V : Fin 4352 → Fin 128 → ℝ} {lam : ℝ} {r : Fin 1024}

/-- With real queries (scaled by 1/8 over log 2) and keys, a score is the reference's over log 2. -/
theorem score_at (hq : ∀ d, x2 (ix4 0 0 r d) = ((q d * (1 / 8 / Real.log 2) : ℝ) : EReal)) (hK : ∀ k d, keys x3 x5 k d = (K k d : EReal))
    (p : Fin 2) (k : Fin 4352) :
    score x2 x3 x5 ⟨1024 * p + r, by omega⟩ k = ((AttnSpec.score q K p k / Real.log 2 : ℝ) : EReal) := by
  have h : ∀ d, keys x3 x5 k d * queries x2 (ix2 ⟨1024 * p + r, by omega⟩ d)
      = ((if d.val / 64 = p.val then q d * (1 / 8 / Real.log 2) * K k d else 0 : ℝ) : EReal) := fun d => by
    rw [queries_at, hq, hK]
    split <;> simp [mul_comm]
  unfold score AttnSpec.score
  simp only [h, AttnSpec.sum_real]
  congr 1
  rw [Fin.sum_univ_add (a := 64) (b := 64), Finset.sum_mul, Finset.sum_div]
  have h0 : ∀ d : Fin 64, d.val / 64 = 0 := by decide
  have h1 : ∀ d : Fin 64, (64 + d.val) / 64 = 1 := by decide
  match p with
  | 0 =>
    simp only [Fin.val_castAdd, Fin.val_natAdd, h0, h1, Fin.val_zero, if_true, one_ne_zero, if_false, Finset.sum_const_zero, add_zero]
    refine Finset.sum_congr rfl fun d _ => ?_
    rw [show Fin.castAdd 64 d = AttnSpec.half 0 d from Fin.ext (by simp [AttnSpec.half])]
    ring
  | 1 =>
    simp only [Fin.val_castAdd, Fin.val_natAdd, h0, h1, Fin.val_one, if_true, zero_ne_one, if_false, Finset.sum_const_zero, zero_add]
    refine Finset.sum_congr rfl fun d _ => ?_
    rw [show Fin.natAdd 64 d = AttnSpec.half 1 d from Fin.ext (by simp [AttnSpec.half, add_comm])]
    ring

/-- A value row over the row of ones: the softmax mean of the values. -/
theorem mean_at (hq : ∀ d, x2 (ix4 0 0 r d) = ((q d * (1 / 8 / Real.log 2) : ℝ) : EReal)) (hK : ∀ k d, keys x3 x5 k d = (K k d : EReal))
    (hV : ∀ k (v : Fin 128), vals x4 x6 k ⟨v, by omega⟩ = (V k v : EReal)) (h1 : ∀ k, vals x4 x6 k 128 = 1) (p : Fin 2) (v : Fin 128) :
    acc x2 x3 x4 x5 x6 (ix2 ⟨v, by omega⟩ ⟨1024 * p + r, by omega⟩)
        * Ideal.div 1 (acc x2 x3 x4 x5 x6 (ix2 128 ⟨1024 * p + r, by omega⟩))
      = (AttnSpec.mean (AttnSpec.score q K p) (fun k => V k v) : EReal) := by
  obtain ⟨M, hM⟩ := AttnSpec.max_real fun k : Fin 256 => AttnSpec.score q K p ⟨k, by omega⟩ / Real.log 2
  simp only [acc_at, hV, h1, bound_at x2 x3 x5, score_at x2 x3 x5 hq hK, hM]
  exact AttnSpec.mean_pow _ _ M

/-- What the body leaves of a query row: its differential attention. -/
theorem row_at (hq : ∀ d, x2 (ix4 0 0 r d) = ((q d * (1 / 8 / Real.log 2) : ℝ) : EReal)) (hK : ∀ k d, keys x3 x5 k d = (K k d : EReal))
    (hV : ∀ k (v : Fin 128), vals x4 x6 k ⟨v, by omega⟩ = (V k v : EReal)) (h1 : ∀ k, vals x4 x6 k 128 = 1)
    (hl : AttnSpec.lambda (fun x => x0 (ix2 0 x)) (fun x => x0 (ix2 1 x)) (fun x => x0 (ix2 2 x)) (fun x => x0 (ix2 3 x)) = (lam : EReal))
    (v : Fin 128) :
    KernelIdealAttn.out x0 x1 x2 x3 x4 x5 x6 (ix4 0 0 r v) = AttnSpec.row q K V lam (fun v => x1 (ix2 v 0)) v := by
  rw [out_at, fast_at]
  refine AttnSpec.finish_congr (fun v => ?_) _ _
  have e0 := mean_at x2 x3 x4 x5 x6 hq hK hV h1 0 v
  have e1 := mean_at x2 x3 x4 x5 x6 hq hK hV h1 1 v
  simp only [Fin.val_zero, Fin.val_one, mul_zero, mul_one, zero_add] at e0 e1
  rw [e0, e1, hl, ← EReal.coe_mul, ← EReal.coe_sub]
  rfl

end Row

end Cert.Proof.AttnBlock
-- ==== Proof.AttnHost.lean ====
/-
  The attention call's windows at a point: the blocks its body reads, as places of the call's arguments.
-/
module

public import proofs.«01_k».proof.Proof.AttnBlock

@[expose] public section

set_option maxRecDepth 16384

noncomputable section

namespace Cert.Proof.AttnHost

open Cert.KernelIdeal Cert.KernelIdeal.Gen Cert.Proof.KernelIdealAttn
open Idealize.ShloMosaic Idealize.ShloMosaic.TcCoe Idealize.SL.Sem
open Idealize.ShloMosaic.Pipeline (Dat)

variable (m : (ℓ : Loc nD τ sig) → Buf (Elt Ideal) ℓ)

/-- Where each window's block lies, point by point. -/
theorem idx : ∀ t : Fin cfg0.N, win0_0.index t = ![0, 0] ∧ win0_1.index t = ![0, 0]
    ∧ win0_2.index t = ![(grid0.coords t 0).val, (grid0.coords t 1).val, (grid0.coords t 2).val, 0]
    ∧ win0_3.index t = ![(grid0.coords t 0).val, (grid0.coords t 1).val, 0, 0]
    ∧ win0_4.index t = ![(grid0.coords t 0).val, (grid0.coords t 1).val, 0, 0, 0]
    ∧ win0_5.index t = ![(grid0.coords t 0).val, (grid0.coords t 1).val, 0, 0]
    ∧ win0_6.index t = ![(grid0.coords t 0).val, (grid0.coords t 1).val, 0, 0, 0]
    ∧ win0_7.index t = ![(grid0.coords t 0).val, (grid0.coords t 1).val, (grid0.coords t 2).val, 0] :=
  (by decide +kernel : ∀ t : Fin grid0.N, _)

/-- The factor the queries are scaled by before the call. -/
def scale : EReal := Ideal.div (Ideal.ofBits .f32 0x3E000000#32) (Ideal.log (Ideal.ofBits .f32 0x40000000#32))

/-- The call's arguments: the queries, -/
abbrev queries (c : Dev nD) : S16x8x4096x128.Idx → EReal := m ((c : Thread nD τ).loc main_arg0)
/-- the context's keys and values, -/
abbrev ctxKeys (c : Dev nD) : S16x8x256x128.Idx → EReal := m ((c : Thread nD τ).loc main_arg1)
@[inherit_doc ctxKeys] abbrev ctxVals (c : Dev nD) : S16x8x256x128.Idx → EReal := m ((c : Thread nD τ).loc main_arg2)
/-- and the latents' keys and values. -/
abbrev latKeys (c : Dev nD) : S16x8x4096x128.Idx → EReal := m ((c : Thread nD τ).loc main_arg3)
@[inherit_doc latKeys] abbrev latVals (c : Dev nD) : S16x8x4096x128.Idx → EReal := m ((c : Thread nD τ).loc main_arg4)

/-- A point's batch, head, and row of its block's queries. -/
abbrev batch (t : Fin cfg0.N) : Fin 16 := grid0.coords t 0
@[inherit_doc batch] abbrev head (t : Fin cfg0.N) : Fin 8 := grid0.coords t 1
@[inherit_doc batch] abbrev place (t : Fin cfg0.N) (r : Fin 1024) : Fin 4096 :=
  ⟨1024 * (grid0.coords t 2).val + r, by have := (grid0.coords t 2).isLt; change _ < 4 at this; omega⟩

/-- The gain as a column, -/
theorem gain_arr (c : Dev nD) : V m c main_v11 = (shapeCast S128x1 (m ((c : Thread nD τ).loc main_arg9)) shapeCasts_S128_S128x1 : FVec Ideal S128x1 .f32) := by
  entry_read
  rfl

/-- the factor's four vectors as rows, -/
theorem factor_arr (c : Dev nD) : V m c main_v10 = (concatenate S4x64 0
    [⟨S1x64, broadcastInDim S1x64 ![1] bcast_S64_S1x64_1 (m ((c : Thread nD τ).loc main_arg5) : FVec Ideal S64 .f32)⟩,
     ⟨S1x64, broadcastInDim S1x64 ![1] bcast_S64_S1x64_1 (m ((c : Thread nD τ).loc main_arg6) : FVec Ideal S64 .f32)⟩,
     ⟨S1x64, broadcastInDim S1x64 ![1] bcast_S64_S1x64_1 (m ((c : Thread nD τ).loc main_arg7) : FVec Ideal S64 .f32)⟩,
     ⟨S1x64, broadcastInDim S1x64 ![1] bcast_S64_S1x64_1 (m ((c : Thread nD τ).loc main_arg8) : FVec Ideal S64 .f32)⟩]
    concatenates_S1x64_S1x64_S1x64_S1x64_S4x64_d0 : FVec Ideal S4x64 .f32) := by
  rfl

/-- Values turned, with rows of ones and zeros joined under them. -/
def ctxBlock (a : FVec Ideal S16x8x256x128 .f32) : FVec Ideal S16x8x1x144x256 .bf16 :=
  concatenate S16x8x1x144x256 3
    [⟨S16x8x1x128x256, transpose S16x8x1x128x256 [0, 1, 2, 4, 3]
      (shapeCast S16x8x1x256x128 (truncf .bf16 a bitsLt_bf16_f32) shapeCasts_S16x8x256x128_S16x8x1x256x128)
      transposes_S16x8x1x256x128_S16x8x1x128x256_0_1_2_4_3⟩,
     ⟨S16x8x1x16x256, broadcastInDim S16x8x1x16x256 ![3, 4] bcast_S16x256_S16x8x1x16x256_3_4
      (truncf .bf16 (uitofp .f32 (cmpi .eq (iotaInDim S16x256 32 0) (broadcastInDim S16x256 ![] bcast_S_S16x256 (constantI S_ 32 0#32)))) bitsLt_bf16_f32)⟩]
    concatenates_S16x8x1x128x256_S16x8x1x16x256_S16x8x1x144x256_d3

@[inherit_doc ctxBlock]
def latBlock (a : FVec Ideal S16x8x4096x128 .f32) : FVec Ideal S16x8x8x144x512 .bf16 :=
  concatenate S16x8x8x144x512 3
    [⟨S16x8x8x128x512, transpose S16x8x8x128x512 [0, 1, 2, 4, 3]
      (shapeCast S16x8x8x512x128 (truncf .bf16 a bitsLt_bf16_f32) shapeCasts_S16x8x4096x128_S16x8x8x512x128)
      transposes_S16x8x8x512x128_S16x8x8x128x512_0_1_2_4_3⟩,
     ⟨S16x8x8x16x512, broadcastInDim S16x8x8x16x512 ![3, 4] bcast_S16x512_S16x8x8x16x512_3_4
      (truncf .bf16 (uitofp .f32 (cmpi .eq (iotaInDim S16x512 32 0) (broadcastInDim S16x512 ![] bcast_S_S16x512 (constantI S_ 32 0#32)))) bitsLt_bf16_f32)⟩]
    concatenates_S16x8x8x128x512_S16x8x8x16x512_S16x8x8x144x512_d3

/-- and the two arrays of values are the ones the call's windows read. -/
theorem ctxVals_arr (c : Dev nD) : V m c main_v22 = ctxBlock (ctxVals m c) := by
  unfold ctxBlock
  entry_read
  rfl

@[inherit_doc ctxVals_arr]
theorem latVals_arr (c : Dev nD) : V m c main_v33 = latBlock (latVals m c) := by
  unfold latBlock
  entry_read
  rfl

/-- A value stands at its turned place, -/
theorem ctx_at (a : FVec Ideal S16x8x256x128 .f32) (b : Fin 16) (h : Fin 8) (v : Fin 128) (k : Fin 256) :
    ctxBlock a (ix5 b h 0 ⟨v, by omega⟩ k) = a (ix4 b h k v) := by
  pointwise [ctxBlock]

@[inherit_doc ctx_at]
theorem lat_at (a : FVec Ideal S16x8x4096x128 .f32) (b : Fin 16) (h : Fin 8) (s : Fin 8) (v : Fin 128) (k : Fin 512) :
    latBlock a (ix5 b h s ⟨v, by omega⟩ k) = a (ix4 b h ⟨s.val * 512 + k.val, by omega⟩ v) := by
  pointwise [latBlock]

/-- The word one, read as a number. -/
theorem one_word : (FloatOps.uitofp (F := Ideal) .f32 1#1 : EReal) = 1 := by
  show (((1#1 : BitVec 1).toNat : ℝ) : EReal) = 1
  simp

/-- and a one in the row after the values. -/
theorem ctx_one (a : FVec Ideal S16x8x256x128 .f32) (b : Fin 16) (h : Fin 8) (k : Fin 256) :
    ctxBlock a (ix5 b h 0 128 k) = (1 : EReal) := by
  pointwise [ctxBlock]
  exact one_word

@[inherit_doc ctx_one]
theorem lat_one (a : FVec Ideal S16x8x4096x128 .f32) (b : Fin 16) (h : Fin 8) (s : Fin 8) (k : Fin 512) :
    latBlock a (ix5 b h s 128 k) = (1 : EReal) := by
  pointwise [latBlock]
  exact one_word

/-- The queries' block: rows of the scaled queries, -/
theorem queries_blk (c : Dev nD) (t : Fin cfg0.N) (r : Fin 1024) (d : Fin 128) :
    iblk m c 2 t (ix4 0 0 r d) = queries m c (ix4 (batch t) (head t) (place t r) d) * scale := by
  unfold scale queries
  blk_point [iblk, V, idx t] <;> rfl

/-- the keys' blocks, -/
theorem ctxKeys_blk (c : Dev nD) (t : Fin cfg0.N) (k : Fin 256) (d : Fin 128) :
    iblk m c 3 t (ix4 0 0 k d) = ctxKeys m c (ix4 (batch t) (head t) k d) := by
  unfold ctxKeys
  blk_point [iblk, V, idx t] <;> rfl

@[inherit_doc ctxKeys_blk]
theorem latKeys_blk (c : Dev nD) (t : Fin cfg0.N) (k : Fin 4096) (d : Fin 128) :
    iblk m c 5 t (ix4 0 0 k d) = latKeys m c (ix4 (batch t) (head t) k d) := by
  unfold latKeys
  blk_point [iblk, V, idx t] <;> rfl

/-- the gain's block and the factor's four rows. -/
theorem gain_blk (c : Dev nD) (t : Fin cfg0.N) (v : Fin 128) :
    iblk m c 1 t (ix2 v 0) = m ((c : Thread nD τ).loc main_arg9) (ix1 v) := by
  refine Eq.trans (congrArg (V m c main_v11) ?_ : _ = V m c main_v11 (ix2 v 0)) ?_
  · blk_point [idx t]
  · rw [gain_arr]
    pointwise

@[inherit_doc gain_blk]
theorem factor_blk0 (c : Dev nD) (t : Fin cfg0.N) (x : Fin 64) :
    iblk m c 0 t (ix2 0 x) = m ((c : Thread nD τ).loc main_arg5) (ix1 x) := by
  refine Eq.trans (congrArg (V m c main_v10) ?_ : _ = V m c main_v10 (ix2 0 x)) ?_
  · blk_point [idx t]
  · rw [factor_arr]
    pointwise

@[inherit_doc gain_blk]
theorem factor_blk1 (c : Dev nD) (t : Fin cfg0.N) (x : Fin 64) :
    iblk m c 0 t (ix2 1 x) = m ((c : Thread nD τ).loc main_arg6) (ix1 x) := by
  refine Eq.trans (congrArg (V m c main_v10) ?_ : _ = V m c main_v10 (ix2 1 x)) ?_
  · blk_point [idx t]
  · rw [factor_arr]
    pointwise

@[inherit_doc gain_blk]
theorem factor_blk2 (c : Dev nD) (t : Fin cfg0.N) (x : Fin 64) :
    iblk m c 0 t (ix2 2 x) = m ((c : Thread nD τ).loc main_arg7) (ix1 x) := by
  refine Eq.trans (congrArg (V m c main_v10) ?_ : _ = V m c main_v10 (ix2 2 x)) ?_
  · blk_point [idx t]
  · rw [factor_arr]
    pointwise

@[inherit_doc gain_blk]
theorem factor_blk3 (c : Dev nD) (t : Fin cfg0.N) (x : Fin 64) :
    iblk m c 0 t (ix2 3 x) = m ((c : Thread nD τ).loc main_arg8) (ix1 x) := by
  refine Eq.trans (congrArg (V m c main_v10) ?_ : _ = V m c main_v10 (ix2 3 x)) ?_
  · blk_point [idx t]
  · rw [factor_arr]
    pointwise

/-- The values' blocks: rows of the turned values. -/
theorem ctxVals_blk (c : Dev nD) (t : Fin cfg0.N) (v : Fin 144) (k : Fin 256) :
    iblk m c 4 t (ix5 0 0 0 v k) = ctxBlock (ctxVals m c) (ix5 (grid0.coords t 0) (grid0.coords t 1) 0 v k) := by
  rw [← ctxVals_arr]
  refine congrArg (V m c main_v22) ?_
  blk_point [idx t]

@[inherit_doc ctxVals_blk]
theorem latVals_blk (c : Dev nD) (t : Fin cfg0.N) (b : Fin 8) (v : Fin 144) (k : Fin 512) :
    iblk m c 6 t (ix5 0 0 b v k) = latBlock (latVals m c) (ix5 (grid0.coords t 0) (grid0.coords t 1) b v k) := by
  rw [← latVals_arr]
  refine congrArg (V m c main_v33) ?_
  blk_point [idx t]

end Cert.Proof.AttnHost
-- ==== Proof.AttnFinite.lean ====
/-
  What the precondition gives: the queries, the keys, the values and the factor's four vectors are reals.
-/
module

public import proofs.«01_k».proof.Proof.AttnSpec
public import proofs.«01_k».proof.Defs

@[expose] public section

set_option maxRecDepth 16384

noncomputable section

namespace Cert.Proof.AttnFinite

open Idealize.ShloMosaic Idealize.ShloMosaic.TcCoe Idealize.SL.Sem

/-- The precondition's shape relations hold. -/
instance facts : Cert.Pre_finite.Facts where
  bcast_S_S16x8x4096x128 := by decide
  bcast_S_S16x8x256x128 := by decide
  bcast_S_S64 := by decide

/-- An extended real whose size is under infinity is a real. -/
theorem real_of_lt {x : EReal} (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have hx : max x (-x) < ⊤ := by
    by_contra hn
    simp [Ideal.cmp, hn] at h
  refine (EReal.coe_toReal ?_ ?_).symm
  · rintro rfl
    simp at hx
  · rintro rfl
    simp at hx

/-- An array whose sizes all compare under infinity is an array of reals. -/
theorem reals {s : Shape} (x t : FVec Ideal s .f32) (ht : t = fun _ => Ideal.ofBits .f32 0x7F800000#32)
    (h : cmpf .olt (Host.absf x) t = fun _ => 1#1) (i : s.Idx) : x i = ((x i).toReal : EReal) := by
  subst ht
  exact real_of_lt (congrFun h i)

/-- An array of reals. -/
def Reals {s : Shape} (x : s.Idx → EReal) : Prop := ∀ i, x i = ((x i).toReal : EReal)

/-- The arguments the precondition makes real. -/
theorem args (m : (ℓ : Loc Cert.KernelIdeal.nD Cert.KernelIdeal.τ Cert.KernelIdeal.sig) → Buf (Elt Ideal) ℓ)
    (h : Cert.Pre_KernelIdeal_finite m) (c : Dev Cert.KernelIdeal.nD) :
Reals (s := Cert.KernelIdeal.S16x8x4096x128) (m ((c.tc : Thread Cert.KernelIdeal.nD Cert.KernelIdeal.τ).loc Cert.KernelIdeal.main_arg0))
      ∧ Reals (s := Cert.KernelIdeal.S16x8x256x128) (m ((c.tc : Thread Cert.KernelIdeal.nD Cert.KernelIdeal.τ).loc Cert.KernelIdeal.main_arg1))
      ∧ Reals (s := Cert.KernelIdeal.S16x8x256x128) (m ((c.tc : Thread Cert.KernelIdeal.nD Cert.KernelIdeal.τ).loc Cert.KernelIdeal.main_arg2))
      ∧ Reals (s := Cert.KernelIdeal.S16x8x4096x128) (m ((c.tc : Thread Cert.KernelIdeal.nD Cert.KernelIdeal.τ).loc Cert.KernelIdeal.main_arg3))
      ∧ Reals (s := Cert.KernelIdeal.S16x8x4096x128) (m ((c.tc : Thread Cert.KernelIdeal.nD Cert.KernelIdeal.τ).loc Cert.KernelIdeal.main_arg4))
      ∧ Reals (s := Cert.KernelIdeal.S64) (m ((c.tc : Thread Cert.KernelIdeal.nD Cert.KernelIdeal.τ).loc Cert.KernelIdeal.main_arg5))
      ∧ Reals (s := Cert.KernelIdeal.S64) (m ((c.tc : Thread Cert.KernelIdeal.nD Cert.KernelIdeal.τ).loc Cert.KernelIdeal.main_arg6))
      ∧ Reals (s := Cert.KernelIdeal.S64) (m ((c.tc : Thread Cert.KernelIdeal.nD Cert.KernelIdeal.τ).loc Cert.KernelIdeal.main_arg7))
      ∧ Reals (s := Cert.KernelIdeal.S64) (m ((c.tc : Thread Cert.KernelIdeal.nD Cert.KernelIdeal.τ).loc Cert.KernelIdeal.main_arg8)) := by
  obtain ⟨h0, h1, h2, h3, h4, h5, h6, h7, h8⟩ := h c
  exact ⟨reals _ _ rfl h0, reals _ _ rfl h1, reals _ _ rfl h2, reals _ _ rfl h3, reals _ _ rfl h4, reals _ _ rfl h5,
    reals _ _ rfl h6, reals _ _ rfl h7, reals _ _ rfl h8⟩

/-- The factor of four real vectors is real. -/
theorem lambda_real (a b c d : Fin 64 → EReal) (ha : ∀ x, a x = ((a x).toReal : EReal)) (hb : ∀ x, b x = ((b x).toReal : EReal))
    (hc : ∀ x, c x = ((c x).toReal : EReal)) (hd : ∀ x, d x = ((d x).toReal : EReal)) :
    AttnSpec.lambda a b c d = ((AttnSpec.lambda a b c d).toReal : EReal) := by
  have hw : ∃ w : ℝ, Ideal.ofBits .f32 0x3E4CCCCD#32 = (w : EReal) := by
    refine ⟨13421773 / 67108864, ?_⟩
    simp [Ideal.ofBits, Ideal.ieee, -EReal.coe_mul]
    norm_num
  obtain ⟨w, hw⟩ := hw
  have : ∃ r : ℝ, AttnSpec.lambda a b c d = (r : EReal) := by
    obtain ⟨a', rfl⟩ : ∃ f : Fin 64 → ℝ, a = fun x => (f x : EReal) := ⟨fun x => (a x).toReal, funext ha⟩
    obtain ⟨b', rfl⟩ : ∃ f : Fin 64 → ℝ, b = fun x => (f x : EReal) := ⟨fun x => (b x).toReal, funext hb⟩
    obtain ⟨c', rfl⟩ : ∃ f : Fin 64 → ℝ, c = fun x => (f x : EReal) := ⟨fun x => (c x).toReal, funext hc⟩
    obtain ⟨d', rfl⟩ : ∃ f : Fin 64 → ℝ, d = fun x => (f x : EReal) := ⟨fun x => (d x).toReal, funext hd⟩
    unfold AttnSpec.lambda
    rw [hw, AttnSpec.dot_real, AttnSpec.dot_real, Ideal.exp_coe, Ideal.exp_coe]
    exact ⟨_, by push_cast; rfl⟩
  obtain ⟨r, hr⟩ := this
  rw [hr, EReal.toReal_coe]

end Cert.Proof.AttnFinite
-- ==== Proof.AttnRef.lean ====
/-
  What the attention reference computes: row `s` of head `h` of batch `b` of its result is the differential attention
  of that query row, where queries, keys, values and the λ vectors are real.
-/
module

public import proofs.«01_k».proof.Proof.AttnSpec
public import proofs.«01_k».proof.Proof.Gen.ReferenceIdeal.Run
public import Idealize.ShloMosaic.Lib.Tactic.CleanTypes
public import Idealize.ShloMosaic.Lib.Pointwise

@[expose] public section

set_option maxRecDepth 16384

noncomputable section

namespace Cert.Proof.AttnRef

open Cert.ReferenceIdeal Cert.ReferenceIdeal.Gen
open Idealize.ShloMosaic Idealize.ShloMosaic.TcCoe Idealize.SL.Sem

/-! ## The reference's steps, whole arrays -/

/-- Context rows, then latent rows. -/
def joined (kc : FVec Ideal S16x8x256x128 .f32) (kl : FVec Ideal S16x8x4096x128 .f32) : FVec Ideal S16x8x4352x128 .f32 :=
  (concatenate S16x8x4352x128 2 [⟨S16x8x256x128, kc⟩, ⟨S16x8x4096x128, kl⟩] concatenates_S16x8x256x128_S16x8x4096x128_S16x8x4352x128_d2)

/-- The scores of both halves. -/
def scores (q : FVec Ideal S16x8x4096x128 .f32) (K : FVec Ideal S16x8x4352x128 .f32) : FVec Ideal S16x8x2x4096x4352 .f32 :=
  (mulf (Host.dotGeneral dot_S16x8x2x4096x64_S16x8x2x4352x64_S16x8x2x4096x4352_4_4_3_3_012_012 none (transpose S16x8x2x4096x64 [0, 1, 3, 2, 4] (shapeCast _ q shapeCasts_S16x8x4096x128_S16x8x4096x2x64) transposes_S16x8x4096x2x64_S16x8x2x4096x64_0_1_3_2_4) (transpose S16x8x2x4352x64 [0, 1, 3, 2, 4] (shapeCast _ K shapeCasts_S16x8x4352x128_S16x8x4352x2x64) transposes_S16x8x4352x2x64_S16x8x2x4352x64_0_1_3_2_4)) (broadcastInDim S16x8x2x4096x4352 ![] bcast_S_S16x8x2x4096x4352 (constant S_ .f32 0x3E000000#32)))

/-- The largest score of each row, -/
def most (S : FVec Ideal S16x8x2x4096x4352 .f32) : FVec Ideal S16x8x2x4096 .f32 :=
  Host.reduce FloatOps.maximumf S (constant S_ .f32 0xFF800000#32) reducesTo_S16x8x2x4096x4352_S16x8x2x4096_d4 h_S_

/-- compared with −∞ once more; -/
def largest (S : FVec Ideal S16x8x2x4096x4352 .f32) : FVec Ideal S16x8x2x4096 .f32 :=
  maximumf (broadcastInDim S16x8x2x4096 ![] bcast_S_S16x8x2x4096 (constant S_ .f32 0xFF800000#32)) (most S)

/-- a number per row, over the row; -/
def spread (T : FVec Ideal S16x8x2x4096 .f32) : FVec Ideal S16x8x2x4096x4352 .f32 :=
  broadcastInDim S16x8x2x4096x4352 ![0, 1, 2, 3, 4] bcast_S16x8x2x4096x1_S16x8x2x4096x4352_0_1_2_3_4 (broadcastInDim S16x8x2x4096x1 ![0, 1, 2, 3] bcast_S16x8x2x4096_S16x8x2x4096x1_0_1_2_3 T)

/-- the sum of each row; -/
def total (E : FVec Ideal S16x8x2x4096x4352 .f32) : FVec Ideal S16x8x2x4096 .f32 :=
  Host.reduceAdd E (constant S_ .f32 0x00000000#32) reducesTo_S16x8x2x4096x4352_S16x8x2x4096_d4 h_S_

/-- the exponentials, -/
def powers (S : FVec Ideal S16x8x2x4096x4352 .f32) : FVec Ideal S16x8x2x4096x4352 .f32 := Host.exp (subf S (spread (largest S)))

/-- and the softmax. -/
def soft (S : FVec Ideal S16x8x2x4096x4352 .f32) : FVec Ideal S16x8x2x4096x4352 .f32 :=
  Host.divf (powers S) (spread (total (powers S)))

/-- The factor λ. -/
def factor (a5 a6 a7 a8 : FVec Ideal S64 .f32) : FVec Ideal S_ .f32 :=
  (addf (subf (Host.exp (Host.reduceAdd (mulf a5 a6) (constant S_ .f32 0x00000000#32) reducesTo_S64_S_d0 h_S_)) (Host.exp (Host.reduceAdd (mulf a7 a8) (constant S_ .f32 0x00000000#32) reducesTo_S64_S_d0 h_S_))) (constant S_ .f32 0x3E4CCCCD#32))

/-- The difference of the two halves' weights. -/
def weights (P : FVec Ideal S16x8x2x4096x4352 .f32) (L : FVec Ideal S_ .f32) : FVec Ideal S16x8x4096x4352 .f32 :=
  (subf (shapeCast _ (extractStridedSlice S16x8x1x4096x4352 ![0, 0, 0, 0, 0] P slices_S16x8x2x4096x4352_S16x8x1x4096x4352_0_0_0_0_0) shapeCasts_S16x8x1x4096x4352_S16x8x4096x4352) (mulf (broadcastInDim S16x8x4096x4352 ![] bcast_S_S16x8x4096x4352 L) (shapeCast _ (extractStridedSlice S16x8x1x4096x4352 ![0, 0, 1, 0, 0] P slices_S16x8x2x4096x4352_S16x8x1x4096x4352_0_0_1_0_0) shapeCasts_S16x8x1x4096x4352_S16x8x4096x4352)))

/-- The weighted values. -/
def mixed (A : FVec Ideal S16x8x4096x4352 .f32) (W : FVec Ideal S16x8x4352x128 .f32) : FVec Ideal S16x8x4096x128 .f32 :=
  (Host.dotGeneral dot_S16x8x4096x4352_S16x8x4352x128_S16x8x4096x128_3_2_2_3_01_01 none A W)

/-- The norm. -/
def normed (O : FVec Ideal S16x8x4096x128 .f32) (g : FVec Ideal S128 .f32) : FVec Ideal S16x8x4096x128 .bf16 :=
  truncf .bf16 (mulf (mulf (mulf O (broadcastInDim S16x8x4096x128 ![0, 1, 2, 3] bcast_S16x8x4096x1_S16x8x4096x128_0_1_2_3 (Host.rsqrt (addf (Host.divf (broadcastInDim S16x8x4096x1 ![0, 1, 2] bcast_S16x8x4096_S16x8x4096x1_0_1_2 (Host.reduceAdd (mulf O O) (constant S_ .f32 0x00000000#32) reducesTo_S16x8x4096x128_S16x8x4096_d3 h_S_)) (broadcastInDim S16x8x4096x1 ![] bcast_S_S16x8x4096x1 (constant S_ .f32 0x43000000#32))) (broadcastInDim S16x8x4096x1 ![] bcast_S_S16x8x4096x1 (constant S_ .f32 0x358637BD#32)))))) (broadcastInDim S16x8x4096x128 ![0, 1, 2, 3] bcast_S1x1x1x128_S16x8x4096x128_0_1_2_3 (broadcastInDim S1x1x1x128 ![3] bcast_S128_S1x1x1x128_3 g))) (broadcastInDim S16x8x4096x128 ![] bcast_S_S16x8x4096x128 (constant S_ .f32 0x3F4CCCCD#32))) bitsLt_bf16_f32

/-- The reference's result is these steps. -/
theorem result_steps (m : (ℓ : Loc nD τ sig) → Buf (Elt Ideal) ℓ) (c : Dev nD) :
    Cert.ReferenceIdeal.Value.res_main_v51 m c = normed (mixed (weights
        (soft (scores (m (c.tc.loc main_arg0)) (joined (m (c.tc.loc main_arg1)) (m (c.tc.loc main_arg3)))))
        (factor (m (c.tc.loc main_arg5)) (m (c.tc.loc main_arg6)) (m (c.tc.loc main_arg7)) (m (c.tc.loc main_arg8))))
      (joined (m (c.tc.loc main_arg2)) (m (c.tc.loc main_arg4)))) (m (c.tc.loc main_arg9)) := rfl

/-! ## The steps at an index -/

theorem joined_at (kc : FVec Ideal S16x8x256x128 .f32) (kl : FVec Ideal S16x8x4096x128 .f32) (b : Fin 16) (h : Fin 8) (k : Fin 4352) (d : Fin 128) :
    joined kc kl (ix4 b h k d) = if hk : k.val < 256 then kc (ix4 b h ⟨k, hk⟩ d) else kl (ix4 b h ⟨k - 256, by omega⟩ d) := by
  pointwise [joined]

theorem scores_at (q : FVec Ideal S16x8x4096x128 .f32) (K : FVec Ideal S16x8x4352x128 .f32) (b : Fin 16) (h : Fin 8) (p : Fin 2) (s : Fin 4096)
    (k : Fin 4352) : scores q K (ix5 b h p s k)
      = (∑ x, q (ix4 b h s (AttnSpec.half p x)) * K (ix4 b h k (AttnSpec.half p x))) * Ideal.ofBits .f32 0x3E000000#32 := by
  pointwise [scores]
  have hp : ∀ x : Fin 64, (⟨p.val * 64 + x.val, by omega⟩ : Fin 128) = AttnSpec.half p x := fun x =>
    Fin.ext (by show p.val * 64 + x.val = 64 * p.val + x.val; omega)
  simp only [hp]

/-- The largest of a row of scores, from −∞. -/
def peak (f : Fin 4352 → EReal) : EReal :=
  max (Ideal.ofBits .f32 0xFF800000#32) (Finset.univ.fold max (Ideal.ofBits .f32 0xFF800000#32) f)

theorem most_at (S : FVec Ideal S16x8x2x4096x4352 .f32) (b : Fin 16) (h : Fin 8) (p : Fin 2) (s : Fin 4096) :
    most S (ix4 b h p s) = Finset.univ.fold max (Ideal.ofBits .f32 0xFF800000#32) fun x => S (ix5 b h p s x) := by
  unfold most
  pointwise

/-- A maximum of two arrays at an index. -/
theorem maximum_at (A T : FVec Ideal S16x8x2x4096 .f32) (b : Fin 16) (h : Fin 8) (p : Fin 2) (s : Fin 4096) :
    maximumf A T (ix4 b h p s) = max (A (ix4 b h p s)) (T (ix4 b h p s)) := rfl

/-- The array of −∞ at an index. -/
theorem floor_at (b : Fin 16) (h : Fin 8) (p : Fin 2) (s : Fin 4096) :
    broadcastInDim S16x8x2x4096 ![] bcast_S_S16x8x2x4096 (constant (F := Ideal) S_ .f32 0xFF800000#32) (ix4 b h p s)
      = Ideal.ofBits .f32 0xFF800000#32 := rfl

theorem largest_eq (S : FVec Ideal S16x8x2x4096x4352 .f32) : largest S
    = maximumf (broadcastInDim S16x8x2x4096 ![] bcast_S_S16x8x2x4096 (constant (F := Ideal) S_ .f32 0xFF800000#32)) (most S) := rfl

theorem largest_at (S : FVec Ideal S16x8x2x4096x4352 .f32) (b : Fin 16) (h : Fin 8) (p : Fin 2) (s : Fin 4096) :
    largest S (ix4 b h p s) = peak fun x => S (ix5 b h p s x) :=
  ((congrFun (largest_eq S) _).trans (maximum_at _ _ b h p s)).trans (congrArg₂ max (floor_at b h p s) (most_at S b h p s))

theorem spread_at (T : FVec Ideal S16x8x2x4096 .f32) (b : Fin 16) (h : Fin 8) (p : Fin 2) (s : Fin 4096) (k : Fin 4352) :
    spread T (ix5 b h p s k) = T (ix4 b h p s) := by
  pointwise [spread]

theorem total_at (E : FVec Ideal S16x8x2x4096x4352 .f32) (b : Fin 16) (h : Fin 8) (p : Fin 2) (s : Fin 4096) :
    total E (ix4 b h p s) = ∑ x, E (ix5 b h p s x) := by
  pointwise [total]

theorem powers_at (S : FVec Ideal S16x8x2x4096x4352 .f32) (b : Fin 16) (h : Fin 8) (p : Fin 2) (s : Fin 4096) (k : Fin 4352) :
    powers S (ix5 b h p s k) = Ideal.exp (S (ix5 b h p s k) - peak fun x => S (ix5 b h p s x)) := by
  unfold powers
  generalize hT : spread (largest S) = T
  pointwise
  rw [← hT, spread_at, largest_at]

theorem soft_at (S : FVec Ideal S16x8x2x4096x4352 .f32) (b : Fin 16) (h : Fin 8) (p : Fin 2) (s : Fin 4096) (k : Fin 4352) :
    soft S (ix5 b h p s k) = Ideal.div (Ideal.exp (S (ix5 b h p s k) - peak fun x => S (ix5 b h p s x)))
      (∑ x, Ideal.exp (S (ix5 b h p s x) - peak fun x => S (ix5 b h p s x))) := by
  unfold soft
  generalize hT : spread (total (powers S)) = T
  generalize hE : powers S = E at hT
  pointwise
  rw [← hT, spread_at, total_at, ← hE]
  simp only [powers_at]

theorem factor_at (a5 a6 a7 a8 : FVec Ideal S64 .f32) : factor a5 a6 a7 a8
    = fun _ => AttnSpec.lambda (fun x => a5 (ix1 x)) (fun x => a6 (ix1 x)) (fun x => a7 (ix1 x)) (fun x => a8 (ix1 x)) := by
  funext i
  pointwise [factor]
  rfl

theorem weights_at (P : FVec Ideal S16x8x2x4096x4352 .f32) (l : EReal) (b : Fin 16) (h : Fin 8) (s : Fin 4096) (k : Fin 4352) :
    weights P (fun _ => l) (ix4 b h s k) = P (ix5 b h 0 s k) - l * P (ix5 b h 1 s k) := by
  pointwise [weights]

theorem mixed_at (A : FVec Ideal S16x8x4096x4352 .f32) (W : FVec Ideal S16x8x4352x128 .f32) (b : Fin 16) (h : Fin 8) (s : Fin 4096) (v : Fin 128) :
    mixed A W (ix4 b h s v) = ∑ k, A (ix4 b h s k) * W (ix4 b h k v) := by
  pointwise [mixed]

theorem normed_at (O : FVec Ideal S16x8x4096x128 .f32) (g : FVec Ideal S128 .f32) (b : Fin 16) (h : Fin 8) (s : Fin 4096) (v : Fin 128) :
    normed O g (ix4 b h s v) = AttnSpec.finish (fun v => O (ix4 b h s v)) (fun v => g (ix1 v)) v := by
  pointwise [normed]
  rfl

/-! ## On reals -/

/-- The float word of 1/8. -/
theorem eighth : Ideal.ofBits .f32 0x3E000000#32 = ((1 / 8 : ℝ) : EReal) := by
  simp [Ideal.ofBits, Ideal.ieee, -EReal.coe_mul]; norm_num

/-- The float word of −∞. -/
theorem least : Ideal.ofBits .f32 0xFF800000#32 = (⊥ : EReal) := by simp [Ideal.ofBits, Ideal.ieee]

/-- The largest of real scores is real. -/
theorem peak_real (f : Fin 4352 → ℝ) : ∃ M : ℝ, peak (fun k => (f k : EReal)) = (M : EReal) := by
  obtain ⟨M, hM⟩ := AttnSpec.max_real f
  refine ⟨M, ?_⟩
  unfold peak
  rw [least, hM]
  exact max_eq_right bot_le

/-- One row of the reference from real queries, keys, values and λ. -/
theorem row_at (q : FVec Ideal S16x8x4096x128 .f32) (kc vc : FVec Ideal S16x8x256x128 .f32) (kl vl : FVec Ideal S16x8x4096x128 .f32)
    (L : FVec Ideal S_ .f32) (g : FVec Ideal S128 .f32) (b : Fin 16) (h : Fin 8) (s : Fin 4096) {q' : Fin 128 → ℝ} {K V : Fin 4352 → Fin 128 → ℝ}
    {lam : ℝ} (hq : ∀ d, q (ix4 b h s d) = (q' d : EReal)) (hK : ∀ k d, joined kc kl (ix4 b h k d) = (K k d : EReal))
    (hV : ∀ k v, joined vc vl (ix4 b h k v) = (V k v : EReal)) (hL : L = fun _ => (lam : EReal)) (v : Fin 128) :
    normed (mixed (weights (soft (scores q (joined kc kl))) L) (joined vc vl)) g (ix4 b h s v)
      = AttnSpec.row q' K V lam (fun v => g (ix1 v)) v := by
  have hs : ∀ p k, scores q (joined kc kl) (ix5 b h p s k) = (AttnSpec.score q' K p k : EReal) := fun p k => by
    rw [scores_at]
    simp only [hq, hK]
    rw [AttnSpec.dot_real, eighth, ← EReal.coe_mul]
    rfl
  obtain ⟨M, hM⟩ := peak_real (AttnSpec.score q' K 0)
  obtain ⟨N, hN⟩ := peak_real (AttnSpec.score q' K 1)
  rw [normed_at]
  refine AttnSpec.finish_congr (fun v => ?_) _ _
  rw [mixed_at, hL]
  simp only [weights_at, soft_at, hs, hM, hN, hV]
  exact AttnSpec.weights_diff _ _ _ M N lam

end Cert.Proof.AttnRef
-- ==== Proof.AttnValue.lean ====
/-
  The attention call's result array: row `s` of a batch's head is the differential attention of its query over the joined
  keys and values, so the array is the reference's.
-/
module

public import proofs.«01_k».proof.Proof.KernelIdealFrame
public import proofs.«01_k».proof.Proof.AttnHost
public import proofs.«01_k».proof.Proof.AttnFinite
public import proofs.«01_k».proof.Proof.AttnRef

@[expose] public section

set_option maxRecDepth 16384

noncomputable section

namespace Cert.Proof.AttnValue

open Cert.KernelIdeal Cert.KernelIdeal.Gen Cert.Proof.KernelIdealAttn Cert.Proof.AttnHost
open Idealize.ShloMosaic Idealize.ShloMosaic.TcCoe Idealize.SL.Sem
open Idealize.ShloMosaic.Pipeline (Dat)

variable (m : (ℓ : Loc nD τ sig) → Buf (Elt Ideal) ℓ)

/-- Place `k` of a context's array joined with a latents': the context's 256 rows come first. -/
def join (a : S16x8x256x128.Idx → EReal) (l : S16x8x4096x128.Idx → EReal) (b : Fin 16) (h : Fin 8) (k : Fin 4352) (d : Fin 128) : EReal :=
  if hk : k.val < 256 then a (ix4 b h ⟨k, hk⟩ d) else l (ix4 b h ⟨k - 256, by omega⟩ d)

/-- Arrays of reals join to reals. -/
theorem join_real {a : S16x8x256x128.Idx → EReal} {l : S16x8x4096x128.Idx → EReal} (ha : AttnFinite.Reals a) (hl : AttnFinite.Reals l)
    (b : Fin 16) (h : Fin 8) (k : Fin 4352) (d : Fin 128) : join a l b h k d = ((join a l b h k d).toReal : EReal) := by
  unfold join
  split
  · exact ha _
  · exact hl _

/-- The factor of the second attention. -/
def factor (c : Dev nD) : EReal :=
  AttnSpec.lambda (fun x => m ((c : Thread nD τ).loc main_arg5) (ix1 x)) (fun x => m ((c : Thread nD τ).loc main_arg6) (ix1 x))
    (fun x => m ((c : Thread nD τ).loc main_arg7) (ix1 x)) (fun x => m ((c : Thread nD τ).loc main_arg8) (ix1 x))

/-- The differential attention of query `s` of a batch's head, -/
def resultAt (c : Dev nD) (b : Fin 16) (h : Fin 8) (s : Fin 4096) (v : Fin 128) : EReal :=
  AttnSpec.row (fun d => (queries m c (ix4 b h s d)).toReal) (fun k d => (join (ctxKeys m c) (latKeys m c) b h k d).toReal)
    (fun k d => (join (ctxVals m c) (latVals m c) b h k d).toReal) (factor m c).toReal (fun v => m ((c : Thread nD τ).loc main_arg9) (ix1 v)) v

/-- and of every query. -/
def result (c : Dev nD) : FVec Ideal S16x8x4096x128 .f32 := fun i => resultAt m c (i 0) (i 1) (i 2) (i 3)

/-- The queries' scale is an eighth, counted in powers of two. -/
theorem scale_eq : scale = ((1 / 8 / Real.log 2 : ℝ) : EReal) := by
  have h2 : Ideal.ofBits .f32 0x40000000#32 = ((2 : ℝ) : EReal) := by
    simp [Ideal.ofBits, Ideal.ieee, -EReal.coe_mul]
    norm_num
  unfold scale
  rw [h2, AttnRef.eighth, Ideal.log_coe, if_neg (by norm_num), Ideal.div_coe (Real.log_pos (by norm_num)).ne', ← EReal.coe_mul]
  congr 1
  ring

/-- The block of keys a point reads is its batch's head's joined keys, -/
theorem keys_at (c : Dev nD) (t : Fin cfg0.N) (k : Fin 4352) (d : Fin 128) :
    AttnBlock.keys (iblk m c 3 t) (iblk m c 5 t) k d = join (ctxKeys m c) (latKeys m c) (batch t) (head t) k d := by
  unfold AttnBlock.keys join
  split
  · exact ctxKeys_blk m c t _ d
  · exact latKeys_blk m c t _ d

/-- and the block of values its joined values, -/
theorem vals_at (c : Dev nD) (t : Fin cfg0.N) (k : Fin 4352) (v : Fin 128) :
    AttnBlock.vals (iblk m c 4 t) (iblk m c 6 t) k ⟨v, by omega⟩ = join (ctxVals m c) (latVals m c) (batch t) (head t) k v := by
  unfold AttnBlock.vals join
  split
  · exact (ctxVals_blk m c t _ _).trans (ctx_at _ _ _ v _)
  · refine (latVals_blk m c t _ _ _).trans ((lat_at _ _ _ _ v _).trans ?_)
    refine congrArg (fun k => latVals m c (ix4 (batch t) (head t) k v)) (Fin.ext ?_)
    show (k.val - 256) / 512 * 512 + (k.val - 256) % 512 = k.val - 256
    omega

/-- with a one after each. -/
theorem ones_at (c : Dev nD) (t : Fin cfg0.N) (k : Fin 4352) :
    AttnBlock.vals (iblk m c 4 t) (iblk m c 6 t) k 128 = (1 : EReal) := by
  unfold AttnBlock.vals
  split
  · exact (ctxVals_blk m c t _ _).trans (ctx_one _ _ _ _)
  · exact (latVals_blk m c t _ _ _).trans (lat_one _ _ _ _ _)

/-- What point `t` writes at a place of its block is the result there. -/
theorem point (hm : Cert.Pre_KernelIdeal_finite m) (c : Dev nD) (t : Fin cfg0.N) (r : Fin 1024) (v : Fin 128) :
    outAt m c t (ix4 0 0 r v) = resultAt m c (batch t) (head t) (place t r) v := by
  obtain ⟨h0, h1, h2, h3, h4, h5, h6, h7, h8⟩ := AttnFinite.args m hm c
  have hl : AttnSpec.lambda (fun x => iblk m c 0 t (ix2 0 x)) (fun x => iblk m c 0 t (ix2 1 x)) (fun x => iblk m c 0 t (ix2 2 x))
      (fun x => iblk m c 0 t (ix2 3 x)) = ((factor m c).toReal : EReal) := by
    simp only [factor_blk0, factor_blk1, factor_blk2, factor_blk3]
    exact AttnFinite.lambda_real _ _ _ _ (fun x => h5 _) (fun x => h6 _) (fun x => h7 _) (fun x => h8 _)
  refine (AttnBlock.row_at (iblk m c 0 t) (iblk m c 1 t) (iblk m c 2 t) (iblk m c 3 t) (iblk m c 4 t) (iblk m c 5 t) (iblk m c 6 t)
    (q := fun d => (queries m c (ix4 (batch t) (head t) (place t r) d)).toReal)
    (K := fun k d => (join (ctxKeys m c) (latKeys m c) (batch t) (head t) k d).toReal)
    (V := fun k d => (join (ctxVals m c) (latVals m c) (batch t) (head t) k d).toReal) (lam := (factor m c).toReal)
    (fun d => ?_) (fun k d => (keys_at m c t k d).trans (join_real h1 h3 _ _ _ _)) (fun k v => (vals_at m c t k v).trans (join_real h2 h4 _ _ _ _))
    (ones_at m c t) hl v).trans ?_
  · rw [queries_blk, scale_eq, EReal.coe_mul, ← h0 _]
  · simp only [gain_blk]
    rfl

/-- The place of a block's row in the result array. -/
theorem place_eq (t : Fin cfg0.N) (r : Fin 1024) (v : Fin 128) :
    ((cfg0.win 7).blk t).view.emb (ix4 0 0 r v) = ix4 (batch t) (head t) (place t r) v := by
  blk_point [idx t] <;> rfl

/-- The result array after the run. -/
theorem final (hm : Cert.Pre_KernelIdeal_finite m) (c : Dev nD) : (dats m 0 c).arrAt 7 (cfgs 0).N = result m c := by
  refine (dats m 0 c).arrAt_eq_of_covers 7 _ (by decide +kernel) fun t _ y => ?_
  blk_simp
  rw [after_7]
  obtain ⟨a, b, r, v, rfl⟩ : ∃ (a : Fin 1) (b : Fin 1) (r : Fin 1024) (v : Fin 128), y = ix4 a b r v := ⟨y 0, y 1, y 2, y 3, eq_ix4 y⟩
  obtain rfl : a = 0 := Subsingleton.elim _ _
  obtain rfl : b = 0 := Subsingleton.elim _ _
  exact (point m hm c t r v).trans (congrArg (result m c) (place_eq t r v)).symm

/-- It is the reference's result, from equal arguments. -/
theorem result_eq (hm : Cert.Pre_KernelIdeal_finite m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    Cert.ReferenceIdeal.Value.res_main_v51 m' c = result m c := by
  obtain ⟨r0, r1, r2, r3, r4, r5, r6, r7, r8⟩ := AttnFinite.args m hm c
  rw [AttnRef.result_steps, h0, h1, h2, h3, h4, h5, h6, h7, h8, h9]
  funext i
  obtain ⟨b, h, s, v, rfl⟩ : ∃ (b : Fin 16) (h : Fin 8) (s : Fin 4096) (v : Fin 128), i = ix4 b h s v := ⟨i 0, i 1, i 2, i 3, eq_ix4 i⟩
  refine AttnRef.row_at _ _ _ _ _ _ _ b h s (q' := fun d => (queries m c (ix4 b h s d)).toReal)
    (K := fun k d => (join (ctxKeys m c) (latKeys m c) b h k d).toReal)
    (V := fun k d => (join (ctxVals m c) (latVals m c) b h k d).toReal) (lam := (factor m c).toReal)
    (fun d => r0 _) (fun k d => (AttnRef.joined_at _ _ b h k d).trans (join_real r1 r3 b h k d))
    (fun k d => (AttnRef.joined_at _ _ b h k d).trans (join_real r2 r4 b h k d)) ?_ v
  refine (AttnRef.factor_at _ _ _ _).trans (funext fun _ => ?_)
  exact AttnFinite.lambda_real _ _ _ _ (fun x => r5 _) (fun x => r6 _) (fun x => r7 _) (fun x => r8 _)

end Cert.Proof.AttnValue
-- ==== Proof.FfnSpec.lean ====
/-
  The feed-forward block of one row, as plain mathematics over the extended reals: root-mean-square norm with gain,
  modulation, the gated hidden layer, the output product, a second norm, and the gated residual.
-/
module

public import Idealize.ShloMosaic.Lib.Pointwise

@[expose] public section

noncomputable section

namespace Cert.Proof.FfnSpec

open Idealize.ShloMosaic

/-- The root-mean-square factor of a row of 1024: `1 / sqrt (mean of squares + ε)`. -/
def rms (x : Fin 1024 → EReal) : EReal :=
  Ideal.rsqrt (Ideal.div (∑ d, x d * x d) (Ideal.ofBits .f32 0x44800000#32) + Ideal.ofBits .f32 0x358637BD#32)

/-- The normalised row, scaled and shifted by the modulation. -/
def modulated (x g sc sh : Fin 1024 → EReal) (d : Fin 1024) : EReal := x d * rms x * g d * (1 + sc d) + sh d

/-- Column `j` of the hidden product. -/
def up (h : Fin 1024 → EReal) (W : Fin 1024 → Fin 5632 → EReal) (j : Fin 5632) : EReal := ∑ d, h d * W d j

/-- Hidden unit `j`: `silu` of its gate column times its value column. -/
def hidden (h : Fin 1024 → EReal) (W : Fin 1024 → Fin 5632 → EReal) (j : Fin 2816) : EReal :=
  up h W ⟨j, by omega⟩ * Ideal.logistic (up h W ⟨j, by omega⟩) * up h W ⟨2816 + j, by omega⟩

/-- The output product of the hidden units. -/
def down (h : Fin 1024 → EReal) (W : Fin 1024 → Fin 5632 → EReal) (Wo : Fin 2816 → Fin 1024 → EReal) (e : Fin 1024) : EReal :=
  ∑ j, hidden h W j * Wo j e

/-- The gated residual over the second norm of `y`. -/
def residual (x y gp gt : Fin 1024 → EReal) (e : Fin 1024) : EReal := x e + gt e * (y e * rms y * gp e)

/-- The whole block on one row. -/
def row (x g sc sh : Fin 1024 → EReal) (W : Fin 1024 → Fin 5632 → EReal) (Wo : Fin 2816 → Fin 1024 → EReal)
    (gp gt : Fin 1024 → EReal) (e : Fin 1024) : EReal :=
  residual x (down (modulated x g sc sh) W Wo) gp gt e

/-- The hidden units in the three chunks the kernel takes: 1024, 1024 and 768 of them. -/
theorem sum_chunks (f : Fin 2816 → EReal) :
    ∑ j, f j = ∑ j : Fin 1024, f ⟨j, by omega⟩ + ∑ j : Fin 1024, f ⟨1024 + j, by omega⟩ + ∑ j : Fin 768, f ⟨2048 + j, by omega⟩ := by
  rw [Fin.sum_univ_add (a := 2048) (b := 768) f, Fin.sum_univ_add (a := 1024) (b := 1024) fun i => f (Fin.castAdd 768 i)]
  rfl

end Cert.Proof.FfnSpec
-- ==== Proof.FfnBlock.lean ====
/-
  What the feed-forward body leaves in its output block: row `r` of the block is the feed-forward block of row `r` of
  the input block.
-/
module

public import proofs.«01_k».proof.Proof.FfnSpec
public import proofs.«01_k».proof.Proof.Gen.FfnIdeal.Frame
public import Idealize.ShloMosaic.Lib.Pipeline.ValueKit
public import Idealize.ShloMosaic.Lib.Pointwise

@[expose] public section

set_option maxRecDepth 16384

noncomputable section

namespace Cert.Proof.FfnBlock

open Cert.FfnIdeal Cert.FfnIdeal.Gen Cert.Proof.FfnSpec
open Idealize.ShloMosaic Idealize.ShloMosaic.TcCoe Idealize.SL.Sem

variable (x0 : Vec Ideal S1x512x1024 .f32) (x1 x2 x3 : Vec Ideal S1x1x1x1024 .f32) (x4 x5 : Vec Ideal S1x1024 .f32)
  (x6 : Vec Ideal S1024x5632 .bf16) (x7 : Vec Ideal S2816x1024 .bf16)

/-- Row `r` of the block after the first norm and the modulation. -/
abbrev normed (r : Fin 512) : Fin 1024 → EReal :=
  modulated (fun d => x0 (ix3 0 r d)) (fun d => x4 (ix2 0 d)) (fun d => x1 (ix4 0 0 0 d)) (fun d => x2 (ix4 0 0 0 d))

/-- Row `r` of the block after the two products. -/
abbrev pushed (r : Fin 512) : Fin 1024 → EReal :=
  down (normed x0 x1 x2 x4 r) (fun d j => x6 (ix2 d j)) (fun j e => x7 (ix2 j e))

/-- The modulated row. -/
theorem normed_at (r : Fin 512) (d : Fin 1024) : k0_pay9 x0 x1 x2 x3 x4 x5 x6 x7 (ix2 r d) = normed x0 x1 x2 x4 r d := by
  pointwise [k0_pay9, k0_pay3, k0_pay2, r0_0, r0_1, r0_2]
  rfl

/-- The first chunk's gate columns. -/
theorem gate_at (r : Fin 512) (j : Fin 1024) :
    k0_pay11 x0 x1 x2 x3 x4 x5 x6 x7 (ix2 r j) = up (normed x0 x1 x2 x4 r) (fun d j => x6 (ix2 d j)) ⟨j, by omega⟩ := by
  have h : k0_pay11 x0 x1 x2 x3 x4 x5 x6 x7 (ix2 r j) = ∑ d : Fin 1024, k0_pay9 x0 x1 x2 x3 x4 x5 x6 x7 (ix2 r d) * View.ld x6 r0_3 (ix2 d j) := by
    pointwise [k0_pay11, k0_pay5, k0_pay9]
  rw [h]
  simp only [normed_at]
  pointwise [r0_3]
  rfl

/-- The first chunk's value columns. -/
theorem value_at (r : Fin 512) (j : Fin 1024) :
    k0_pay12 x0 x1 x2 x3 x4 x5 x6 x7 (ix2 r j) = up (normed x0 x1 x2 x4 r) (fun d j => x6 (ix2 d j)) ⟨2816 + j, by omega⟩ := by
  have h : k0_pay12 x0 x1 x2 x3 x4 x5 x6 x7 (ix2 r j) = ∑ d : Fin 1024, k0_pay9 x0 x1 x2 x3 x4 x5 x6 x7 (ix2 r d) * View.ld x6 r0_4 (ix2 d j) := by
    pointwise [k0_pay12, k0_pay6, k0_pay9]
  rw [h]
  simp only [normed_at]
  pointwise [r0_4]
  rfl

/-- The second product's result, from the three chunks of hidden units. -/
abbrev product : FVec Ideal S512x1024 .f32 :=
  k0_pay7 (k0_pay9 x0 x1 x2 x3 x4 x5 x6 x7) (k0_pay10 x0 x1 x2 x3 x4 x5 x6 x7) (k0_pay11 x0 x1 x2 x3 x4 x5 x6 x7)
    (k0_pay12 x0 x1 x2 x3 x4 x5 x6 x7) (View.ld x7 r0_5) (View.ld x6 r0_6) (View.ld x6 r0_7) (View.ld x7 r0_8) (View.ld x6 r0_9)
    (View.ld x6 r0_10) (View.ld x7 r0_11)

/-- The three chunks make the whole product. -/
theorem product_at (r : Fin 512) (e : Fin 1024) : product x0 x1 x2 x3 x4 x5 x6 x7 (ix2 r e) = pushed x0 x1 x2 x4 x6 x7 r e := by
  have h0 : k0_pay10 x0 x1 x2 x3 x4 x5 x6 x7 (ix2 r e) = 0 := by pointwise [k0_pay10, k0_pay4]
  unfold product
  pointwise [k0_pay7, r0_5, r0_6, r0_7, r0_8, r0_9, r0_10, r0_11]
  simp only [normed_at, gate_at, value_at, h0, zero_add]
  unfold pushed down
  rw [sum_chunks]
  simp only [FfnSpec.hidden, up, ← Nat.add_assoc, Nat.reduceAdd]

/-- The sum of the squares of the product's row. -/
theorem squares_at (r : Fin 512) :
    k0_pay8 (k0_pay9 x0 x1 x2 x3 x4 x5 x6 x7) (k0_pay10 x0 x1 x2 x3 x4 x5 x6 x7) (k0_pay11 x0 x1 x2 x3 x4 x5 x6 x7)
      (k0_pay12 x0 x1 x2 x3 x4 x5 x6 x7) (View.ld x7 r0_5) (View.ld x6 r0_6) (View.ld x6 r0_7) (View.ld x7 r0_8) (View.ld x6 r0_9)
      (View.ld x6 r0_10) (View.ld x7 r0_11) (ix1 r)
      = ∑ e, pushed x0 x1 x2 x4 x6 x7 r e * pushed x0 x1 x2 x4 x6 x7 r e := by
  simp only [← product_at x0 x1 x2 x3 x4 x5 x6 x7]
  generalize hP : product x0 x1 x2 x3 x4 x5 x6 x7 = P
  unfold product at hP
  unfold k0_pay8
  rw [hP]
  pointwise

/-- The block the body leaves, at an index. -/
theorem out_at (r : Fin 512) (e : Fin 1024) :
    out0_8 x0 x1 x2 x3 x4 x5 x6 x7 (ix3 0 r e) = row (fun d => x0 (ix3 0 r d)) (fun d => x4 (ix2 0 d)) (fun d => x1 (ix4 0 0 0 d))
      (fun d => x2 (ix4 0 0 0 d)) (fun d j => x6 (ix2 d j)) (fun j e => x7 (ix2 j e)) (fun d => x5 (ix2 0 d))
      (fun d => x3 (ix4 0 0 0 d)) e := by
  have hs := squares_at x0 x1 x2 x3 x4 x5 x6 x7 r
  have hp := product_at x0 x1 x2 x3 x4 x5 x6 x7 r e
  unfold product at hp
  unfold out0_8
  generalize k0_pay7 (F := Ideal) _ _ _ _ _ _ _ _ _ _ _ = P at hp ⊢
  generalize k0_pay8 (F := Ideal) _ _ _ _ _ _ _ _ _ _ _ = Q at hs ⊢
  rw [View.canon_cons_unit_lit]
  on_goal 1 => pointwise [k0_pay1, k0_pay2, r0_0, r0_1, r0_2]
  · rw [hs, hp]
    rfl
  · decide

end Cert.Proof.FfnBlock
-- ==== Proof.FfnRef.lean ====
/-
  What the feed-forward reference computes: row `s` of batch `b` of its result is the feed-forward block of that row of
  its argument.
-/
module

public import proofs.«01_k».proof.Proof.FfnSpec
public import proofs.«01_k».proof.Proof.Gen.FfnRefIdeal.Run
public import Idealize.ShloMosaic.Lib.Tactic.CleanTypes
public import Idealize.ShloMosaic.Lib.Pointwise

@[expose] public section

set_option maxRecDepth 16384

noncomputable section

namespace Cert.Proof.FfnRef

open Cert.FfnRefIdeal Cert.Proof.FfnSpec
open Idealize.ShloMosaic Idealize.ShloMosaic.TcCoe Idealize.SL.Sem

/-- The reference's result at an index. -/
theorem result_at (m : (ℓ : Loc nD τ sig) → Buf (Elt Ideal) ℓ) (c : Dev nD) (b : Fin 16) (s : Fin 4096) (e : Fin 1024) :
    Cert.FfnRefIdeal.Value.res_main_v46 m c (ix3 b s e) = row (fun d => m (c.tc.loc main_arg0) (ix3 b s d)) (fun d => m (c.tc.loc main_arg2) (ix1 d))
      (fun d => m (c.tc.loc main_arg1) (ix3 0 ⟨b, by omega⟩ ⟨3072 + (1024 + d), by omega⟩)) (fun d => m (c.tc.loc main_arg1) (ix3 0 ⟨b, by omega⟩ ⟨3072 + d, by omega⟩))
      (fun d j => m (c.tc.loc main_arg4) (ix2 d j)) (fun d j => m (c.tc.loc main_arg5) (ix2 d j)) (fun d => m (c.tc.loc main_arg3) (ix1 d))
      (fun d => m (c.tc.loc main_arg1) (ix3 0 ⟨b, by omega⟩ ⟨3072 + (2048 + d), by omega⟩)) e := by
  unfold Cert.FfnRefIdeal.Value.res_main_v46
  clean_types
  pointwise
  rfl

end Cert.Proof.FfnRef
-- ==== Proof.FfnValue.lean ====
/-
  The feed-forward call's result array: row `s` of batch `b` is the feed-forward block of that row of the argument, so
  the array is the reference's.
-/
module

public import proofs.«01_k».proof.Proof.FfnBlock
public import proofs.«01_k».proof.Proof.FfnRef

@[expose] public section

set_option maxRecDepth 16384

noncomputable section

namespace Cert.Proof.FfnValue

open Cert.FfnIdeal Cert.FfnIdeal.Gen Cert.Proof.FfnSpec
open Idealize.ShloMosaic Idealize.ShloMosaic.TcCoe Idealize.SL.Sem
open Idealize.ShloMosaic.Pipeline (Dat)

variable (m : (ℓ : Loc nD τ sig) → Buf (Elt Ideal) ℓ)

/-- The feed-forward block of row `s` of batch `b` of the argument, -/
def resultAt (c : Dev nD) (b : Fin 16) (s : Fin 4096) (e : Fin 1024) : EReal :=
  row (fun d => m ((c : Thread nD τ).loc main_arg0) (ix3 b s d)) (fun d => m ((c : Thread nD τ).loc main_arg2) (ix1 d))
    (fun d => m ((c : Thread nD τ).loc main_arg1) (ix3 0 ⟨b, by omega⟩ ⟨3072 + (1024 + d), by omega⟩))
    (fun d => m ((c : Thread nD τ).loc main_arg1) (ix3 0 ⟨b, by omega⟩ ⟨3072 + d, by omega⟩))
    (fun d j => m ((c : Thread nD τ).loc main_arg4) (ix2 d j)) (fun d j => m ((c : Thread nD τ).loc main_arg5) (ix2 d j))
    (fun d => m ((c : Thread nD τ).loc main_arg3) (ix1 d))
    (fun d => m ((c : Thread nD τ).loc main_arg1) (ix3 0 ⟨b, by omega⟩ ⟨3072 + (2048 + d), by omega⟩)) e

/-- and of every row. -/
def result (c : Dev nD) : FVec Ideal S16x4096x1024 .f32 := fun i => resultAt m c (i 0) (i 1) (i 2)

/-- Where each window's block lies, point by point. -/
theorem idx : ∀ t : Fin cfg0.N, win0_0.index t = ![(grid0.coords t 0).val, (grid0.coords t 1).val, 0]
    ∧ win0_1.index t = ![0, (grid0.coords t 0).val, 0, 4] ∧ win0_2.index t = ![0, (grid0.coords t 0).val, 0, 3]
    ∧ win0_3.index t = ![0, (grid0.coords t 0).val, 0, 5]
    ∧ win0_4.index t = ![0, 0] ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, _)

/-- What point `t` writes at a place of its block is the result there. -/
theorem point (c : Dev nD) (t : Fin cfg0.N) (r : Fin 512) (e : Fin 1024) :
    row (fun d => iblk m c 0 t (ix3 0 r d)) (fun d => iblk m c 4 t (ix2 0 d)) (fun d => iblk m c 1 t (ix4 0 0 0 d))
      (fun d => iblk m c 2 t (ix4 0 0 0 d)) (fun d j => iblk m c 6 t (ix2 d j)) (fun j e => iblk m c 7 t (ix2 j e))
      (fun d => iblk m c 5 t (ix2 0 d)) (fun d => iblk m c 3 t (ix4 0 0 0 d)) e
      = result m c (((cfg0.win 8).blk t).view.emb (ix3 0 r e)) := by
  unfold result resultAt
  blk_point [iblk, V, idx t]

/-- The result array after the run. -/
theorem final (c : Dev nD) : (dats m 0 c).arrAt 8 (cfgs 0).N = result m c := by
  refine (dats m 0 c).arrAt_eq_of_covers 8 _ (by decide +kernel) fun t _ y => ?_
  blk_simp
  rw [after0_8]
  obtain ⟨a, r, e, rfl⟩ : ∃ (a : Fin 1) (r : Fin 512) (e : Fin 1024), y = ix3 a r e := ⟨y 0, y 1, y 2, eq_ix3 y⟩
  obtain rfl : a = 0 := Subsingleton.elim _ _
  rw [FfnBlock.out_at]
  exact point m c t r e

/-- It is the reference's result, from equal arguments. -/
theorem result_eq (c : Dev nD) (m' : (ℓ : Loc Cert.FfnRefIdeal.nD Cert.FfnRefIdeal.τ Cert.FfnRefIdeal.sig) → Buf (Elt Ideal) ℓ)
    (h : m' ((c.tc : Thread Cert.FfnRefIdeal.nD Cert.FfnRefIdeal.τ).loc Cert.FfnRefIdeal.main_arg0) = m ((c.tc : Thread nD τ).loc main_arg0)
      ∧ m' ((c.tc : Thread Cert.FfnRefIdeal.nD Cert.FfnRefIdeal.τ).loc Cert.FfnRefIdeal.main_arg1) = m ((c.tc : Thread nD τ).loc main_arg1)
      ∧ m' ((c.tc : Thread Cert.FfnRefIdeal.nD Cert.FfnRefIdeal.τ).loc Cert.FfnRefIdeal.main_arg2) = m ((c.tc : Thread nD τ).loc main_arg2)
      ∧ m' ((c.tc : Thread Cert.FfnRefIdeal.nD Cert.FfnRefIdeal.τ).loc Cert.FfnRefIdeal.main_arg3) = m ((c.tc : Thread nD τ).loc main_arg3)
      ∧ m' ((c.tc : Thread Cert.FfnRefIdeal.nD Cert.FfnRefIdeal.τ).loc Cert.FfnRefIdeal.main_arg4) = m ((c.tc : Thread nD τ).loc main_arg4)
      ∧ m' ((c.tc : Thread Cert.FfnRefIdeal.nD Cert.FfnRefIdeal.τ).loc Cert.FfnRefIdeal.main_arg5) = m ((c.tc : Thread nD τ).loc main_arg5)) :
    Cert.FfnRefIdeal.Value.res_main_v46 m' c = result m c := by
  obtain ⟨h0, h1, h2, h3, h4, h5⟩ := h
  funext i
  obtain ⟨b, s, e, rfl⟩ : ∃ (b : Fin 16) (s : Fin 4096) (e : Fin 1024), i = ix3 b s e := ⟨i 0, i 1, i 2, eq_ix3 i⟩
  refine (FfnRef.result_at m' c b s e).trans ?_
  rw [h0, h1, h2, h3, h4, h5]
  rfl

end Cert.Proof.FfnValue
-- ==== Proof.MergeSpec.lean ====
/-
  The merge of one row, as plain mathematics over the extended reals: the three branches' output products, each under
  its gate, summed; the output product; a norm, and the gated residual.
-/
module

public import proofs.«01_k».proof.Proof.FfnSpec

@[expose] public section

noncomputable section

namespace Cert.Proof.MergeSpec

open Idealize.ShloMosaic Cert.Proof.FfnSpec

/-- The eight heads' outputs side by side: lane `k` is lane `k % 128` of head `k / 128`. -/
def heads (o : Fin 8 → Fin 128 → EReal) (k : Fin 1024) : EReal := o ⟨k / 128, by omega⟩ ⟨k % 128, by omega⟩

/-- Lane `d` of head `h` lies at `128 h + d`. -/
theorem heads_eq (o : Fin 8 → Fin 128 → EReal) (k : Fin 1024) (h : Fin 8) (d : Fin 128) (hk : k.val = 128 * h.val + d.val) :
    o h d = heads o k := by
  have h1 : (⟨k.val / 128, by omega⟩ : Fin 8) = h := Fin.ext (by show k.val / 128 = h.val; omega)
  have h2 : (⟨k.val % 128, by omega⟩ : Fin 128) = d := Fin.ext (by show k.val % 128 = d.val; omega)
  unfold heads
  rw [h1, h2]

/-- The gated sum of the branches' products: `a` the convolution's, `o` the attention's, `c` the pooling's. -/
def gated (a : Fin 512 → EReal) (o : Fin 8 → Fin 128 → EReal) (c : Fin 512 → EReal) (g : Fin 3072 → EReal)
    (Wa : Fin 512 → Fin 1024 → EReal) (Wo : Fin 1024 → Fin 1024 → EReal) (Wc : Fin 512 → Fin 1024 → EReal) (e : Fin 1024) : EReal :=
  g ⟨e, by omega⟩ * (∑ k, a k * Wa k e) + g ⟨1024 + e, by omega⟩ * (∑ k, heads o k * Wo k e)
    + g ⟨2048 + e, by omega⟩ * (∑ k, c k * Wc k e)

/-- The output product of the gated sum. -/
def mixed (a : Fin 512 → EReal) (o : Fin 8 → Fin 128 → EReal) (c : Fin 512 → EReal) (g : Fin 3072 → EReal)
    (Wa : Fin 512 → Fin 1024 → EReal) (Wo : Fin 1024 → Fin 1024 → EReal) (Wc : Fin 512 → Fin 1024 → EReal)
    (W : Fin 1024 → Fin 1024 → EReal) (e : Fin 1024) : EReal := ∑ d, gated a o c g Wa Wo Wc d * W d e

/-- The merge of one row. -/
def row (x : Fin 1024 → EReal) (a : Fin 512 → EReal) (o : Fin 8 → Fin 128 → EReal) (c : Fin 512 → EReal) (g : Fin 3072 → EReal)
    (Wa : Fin 512 → Fin 1024 → EReal) (Wo : Fin 1024 → Fin 1024 → EReal) (Wc : Fin 512 → Fin 1024 → EReal)
    (W : Fin 1024 → Fin 1024 → EReal) (gp gt : Fin 1024 → EReal) (e : Fin 1024) : EReal :=
  residual x (mixed a o c g Wa Wo Wc W) gp gt e

end Cert.Proof.MergeSpec
-- ==== Proof.MergeBlock.lean ====
/-
  What the merge's body leaves in its output block: row `r` of the block is the merge of row `r` of the input blocks.
-/
module

public import proofs.«01_k».proof.Proof.MergeSpec
public import proofs.«01_k».proof.Proof.Gen.MergeIdeal.Frame
public import Idealize.ShloMosaic.Lib.Pipeline.ValueKit
public import Idealize.ShloMosaic.Lib.Pointwise

@[expose] public section

set_option maxRecDepth 16384

noncomputable section

namespace Cert.Proof.MergeBlock

open Cert.MergeIdeal Cert.MergeIdeal.Gen Cert.Proof.FfnSpec Cert.Proof.MergeSpec
open Idealize.ShloMosaic Idealize.ShloMosaic.TcCoe Idealize.SL.Sem

variable (x0 : Vec Ideal S1x512x1024 .f32) (x1 : Vec Ideal S1x1x1x1024 .f32) (x2 : Vec Ideal S1x1024 .f32)
  (x3 : Vec Ideal S1x512x512 .bf16) (x4 : Vec Ideal S1x8x512x128 .bf16) (x5 : Vec Ideal S1x512x512 .bf16)
  (x6 : Vec Ideal S1x512x3072 .bf16) (x7 : Vec Ideal S512x1024 .bf16) (x8 : Vec Ideal S1024x1024 .bf16)
  (x9 : Vec Ideal S512x1024 .bf16) (x10 : Vec Ideal S1024x1024 .bf16)

/-- Row `r` of the block after the output product. -/
abbrev mix (r : Fin 512) : Fin 1024 → EReal :=
  mixed (fun k => x3 (ix3 0 r k)) (fun h d => x4 (ix4 0 h r d)) (fun k => x5 (ix3 0 r k)) (fun j => x6 (ix3 0 r j))
    (fun k e => x7 (ix2 k e)) (fun k e => x8 (ix2 k e)) (fun k e => x9 (ix2 k e)) (fun k e => x10 (ix2 k e))

/-- The output product, from the blocks. -/
abbrev product : FVec Ideal S512x1024 .f32 :=
  k0_pay10 (k0_pay12 x0 x1 x2 x3 x4 x5 x6 x7 x8 x9 x10) (k0_pay13 x0 x1 x2 x3 x4 x5 x6 x7 x8 x9 x10)
    (k0_pay14 x0 x1 x2 x3 x4 x5 x6 x7 x8 x9 x10) (k0_pay15 x0 x1 x2 x3 x4 x5 x6 x7 x8 x9 x10)
    (k0_pay16 x0 x1 x2 x3 x4 x5 x6 x7 x8 x9 x10) (k0_pay17 x0 x1 x2 x3 x4 x5 x6 x7 x8 x9 x10)
    (k0_pay18 x0 x1 x2 x3 x4 x5 x6 x7 x8 x9 x10) (k0_pay19 x0 x1 x2 x3 x4 x5 x6 x7 x8 x9 x10)
    (View.ld x4 r0_9) (View.ld x8 r0_10) (View.ld x5 r0_0) (View.ld x9 r0_1) (View.ld x6 r0_11) (View.ld x6 r0_12)
    (View.ld x6 r0_13) (View.ld x10 r0_10)

/-- Eight heads laid side by side, as the body takes them one after the other. -/
theorem side_by_side (o : Fin 8 → Fin 128 → EReal) (k : Fin 1024) :
    (if h : k.val < 128 then o 0 ⟨k.val, h⟩
      else if h : k.val - 128 < 128 then o 1 ⟨k.val - 128, h⟩
      else if h : k.val - 128 - 128 < 128 then o 2 ⟨k.val - 128 - 128, h⟩
      else if h : k.val - 128 - 128 - 128 < 128 then o 3 ⟨k.val - 128 - 128 - 128, h⟩
      else if h : k.val - 128 - 128 - 128 - 128 < 128 then o 4 ⟨k.val - 128 - 128 - 128 - 128, h⟩
      else if h : k.val - 128 - 128 - 128 - 128 - 128 < 128 then o 5 ⟨k.val - 128 - 128 - 128 - 128 - 128, h⟩
      else if h : k.val - 128 - 128 - 128 - 128 - 128 - 128 < 128 then o 6 ⟨k.val - 128 - 128 - 128 - 128 - 128 - 128, h⟩
      else o 7 ⟨k.val - 128 - 128 - 128 - 128 - 128 - 128 - 128, by omega⟩) = heads o k := by
  split_ifs <;> refine heads_eq o k _ _ ?_ <;> simp only [Fin.isValue, Fin.coe_ofNat_eq_mod, Nat.reduceMod] <;> omega

/-- The body's output product. -/
theorem product_at (r : Fin 512) (e : Fin 1024) : product x0 x1 x2 x3 x4 x5 x6 x7 x8 x9 x10 (ix2 r e) = mix x3 x4 x5 x6 x7 x8 x9 x10 r e := by
  unfold product
  pointwise [k0_pay10, k0_pay12, k0_pay13, k0_pay14, k0_pay15, k0_pay16, k0_pay17, k0_pay18, k0_pay19, k0_pay2, k0_pay3, k0_pay4,
    k0_pay5, k0_pay6, k0_pay7, k0_pay8, k0_pay9, r0_0, r0_1, r0_2, r0_3, r0_4, r0_5, r0_6, r0_7, r0_8, r0_9, r0_10, r0_11, r0_12, r0_13]
  simp only [side_by_side fun h d => x4 (ix4 0 h r d)]
  rfl

/-- The factor of the second norm. -/
theorem factor_at (r : Fin 512) (e : Fin 1) :
    k0_pay11 (k0_pay12 x0 x1 x2 x3 x4 x5 x6 x7 x8 x9 x10) (k0_pay13 x0 x1 x2 x3 x4 x5 x6 x7 x8 x9 x10)
      (k0_pay14 x0 x1 x2 x3 x4 x5 x6 x7 x8 x9 x10) (k0_pay15 x0 x1 x2 x3 x4 x5 x6 x7 x8 x9 x10)
      (k0_pay16 x0 x1 x2 x3 x4 x5 x6 x7 x8 x9 x10) (k0_pay17 x0 x1 x2 x3 x4 x5 x6 x7 x8 x9 x10)
      (k0_pay18 x0 x1 x2 x3 x4 x5 x6 x7 x8 x9 x10) (k0_pay19 x0 x1 x2 x3 x4 x5 x6 x7 x8 x9 x10)
      (View.ld x4 r0_9) (View.ld x8 r0_10) (View.ld x5 r0_0) (View.ld x9 r0_1) (View.ld x6 r0_11) (View.ld x6 r0_12)
      (View.ld x6 r0_13) (View.ld x10 r0_10) (ix2 r e) = rms (mix x3 x4 x5 x6 x7 x8 x9 x10 r) := by
  unfold rms
  simp only [← product_at x0 x1 x2 x3 x4 x5 x6 x7 x8 x9 x10]
  generalize hP : product x0 x1 x2 x3 x4 x5 x6 x7 x8 x9 x10 = P
  unfold product at hP
  unfold k0_pay11
  rw [hP]
  pointwise

/-- The block the body leaves, at an index. -/
theorem out_at (r : Fin 512) (e : Fin 1024) :
    out0_11 x0 x1 x2 x3 x4 x5 x6 x7 x8 x9 x10 (ix3 0 r e) = row (fun d => x0 (ix3 0 r d))
      (fun k => x3 (ix3 0 r k)) (fun h d => x4 (ix4 0 h r d)) (fun k => x5 (ix3 0 r k)) (fun j => x6 (ix3 0 r j))
      (fun k e => x7 (ix2 k e)) (fun k e => x8 (ix2 k e)) (fun k e => x9 (ix2 k e)) (fun k e => x10 (ix2 k e))
      (fun d => x2 (ix2 0 d)) (fun d => x1 (ix4 0 0 0 d)) e := by
  have hs := factor_at x0 x1 x2 x3 x4 x5 x6 x7 x8 x9 x10 r 0
  have hp := product_at x0 x1 x2 x3 x4 x5 x6 x7 x8 x9 x10 r e
  unfold product at hp
  unfold out0_11
  generalize k0_pay10 (F := Ideal) _ _ _ _ _ _ _ _ _ _ _ _ _ _ _ _ = P at hp ⊢
  generalize k0_pay11 (F := Ideal) _ _ _ _ _ _ _ _ _ _ _ _ _ _ _ _ = Q at hs ⊢
  rw [View.canon_cons_unit_lit]
  on_goal 1 => pointwise [k0_pay1, r0_14, r0_15, r0_16]
  · rw [hs, hp]
    rfl
  · decide

end Cert.Proof.MergeBlock
-- ==== Proof.MergeRef.lean ====
/-
  What the merge reference computes: row `s` of batch `b` of its result is the merge of that row of
  its argument.
-/
module

public import proofs.«01_k».proof.Proof.MergeSpec
public import proofs.«01_k».proof.Proof.Gen.MergeRefIdeal.Run
public import Idealize.ShloMosaic.Lib.Tactic.CleanTypes
public import Idealize.ShloMosaic.Lib.Pointwise

@[expose] public section

set_option maxRecDepth 16384

noncomputable section

namespace Cert.Proof.MergeRef

open Cert.MergeRefIdeal Cert.Proof.MergeSpec
open Idealize.ShloMosaic Idealize.ShloMosaic.TcCoe Idealize.SL.Sem

/-- The reference's result at an index. -/
theorem result_at (m : (ℓ : Loc nD τ sig) → Buf (Elt Ideal) ℓ) (c : Dev nD) (b : Fin 16) (s : Fin 4096) (e : Fin 1024) :
    Cert.MergeRefIdeal.Value.res_main_v36 m c (ix3 b s e) = row (fun d => m (c.tc.loc main_arg0) (ix3 b s d))
      (fun k => m (c.tc.loc main_arg3) (ix3 b s k)) (fun h d => m (c.tc.loc main_arg4) (ix4 b h s d))
      (fun k => m (c.tc.loc main_arg5) (ix3 b s k)) (fun j => m (c.tc.loc main_arg6) (ix3 b s j))
      (fun k e => m (c.tc.loc main_arg7) (ix2 k e)) (fun k e => m (c.tc.loc main_arg8) (ix2 k e))
      (fun k e => m (c.tc.loc main_arg9) (ix2 k e)) (fun k e => m (c.tc.loc main_arg10) (ix2 k e))
      (fun d => m (c.tc.loc main_arg2) (ix1 d)) (fun d => m (c.tc.loc main_arg1) (ix3 0 ⟨b, by omega⟩ ⟨2048 + d, by omega⟩)) e := by
  unfold Cert.MergeRefIdeal.Value.res_main_v36
  clean_types
  pointwise
  rfl

end Cert.Proof.MergeRef
-- ==== Proof.MergeValue.lean ====
/-
  The merge call's result array: row `s` of batch `b` is the merge of that row of the arguments, so the array is the
  reference's.
-/
module

public import proofs.«01_k».proof.Proof.MergeBlock
public import proofs.«01_k».proof.Proof.MergeRef

@[expose] public section

set_option maxRecDepth 16384

noncomputable section

namespace Cert.Proof.MergeValue

open Cert.MergeIdeal Cert.MergeIdeal.Gen Cert.Proof.MergeSpec
open Idealize.ShloMosaic Idealize.ShloMosaic.TcCoe Idealize.SL.Sem
open Idealize.ShloMosaic.Pipeline (Dat)

variable (m : (ℓ : Loc nD τ sig) → Buf (Elt Ideal) ℓ)

/-- The merge of row `s` of batch `b` of the arguments, -/
def resultAt (c : Dev nD) (b : Fin 16) (s : Fin 4096) (e : Fin 1024) : EReal :=
  row (fun d => m ((c : Thread nD τ).loc main_arg0) (ix3 b s d))
    (fun k => m ((c : Thread nD τ).loc main_arg3) (ix3 b s k)) (fun h d => m ((c : Thread nD τ).loc main_arg4) (ix4 b h s d))
    (fun k => m ((c : Thread nD τ).loc main_arg5) (ix3 b s k)) (fun j => m ((c : Thread nD τ).loc main_arg6) (ix3 b s j))
    (fun k e => m ((c : Thread nD τ).loc main_arg7) (ix2 k e)) (fun k e => m ((c : Thread nD τ).loc main_arg8) (ix2 k e))
    (fun k e => m ((c : Thread nD τ).loc main_arg9) (ix2 k e)) (fun k e => m ((c : Thread nD τ).loc main_arg10) (ix2 k e))
    (fun d => m ((c : Thread nD τ).loc main_arg2) (ix1 d))
    (fun d => m ((c : Thread nD τ).loc main_arg1) (ix3 0 ⟨b, by omega⟩ ⟨2048 + d, by omega⟩)) e

/-- and of every row. -/
def result (c : Dev nD) : FVec Ideal S16x4096x1024 .f32 := fun i => resultAt m c (i 0) (i 1) (i 2)

/-- Where each window's block lies, point by point. -/
theorem idx : ∀ t : Fin cfg0.N, win0_0.index t = ![(grid0.coords t 0).val, (grid0.coords t 1).val, 0]
    ∧ win0_1.index t = ![0, (grid0.coords t 0).val, 0, 2] ∧ win0_2.index t = ![0, 0]
    ∧ win0_3.index t = ![(grid0.coords t 0).val, (grid0.coords t 1).val, 0]
    ∧ win0_4.index t = ![(grid0.coords t 0).val, 0, (grid0.coords t 1).val, 0]
    ∧ win0_5.index t = ![(grid0.coords t 0).val, (grid0.coords t 1).val, 0]
    ∧ win0_6.index t = ![(grid0.coords t 0).val, (grid0.coords t 1).val, 0]
    ∧ win0_7.index t = ![0, 0] ∧ win0_8.index t = ![0, 0] ∧ win0_9.index t = ![0, 0] ∧ win0_10.index t = ![0, 0]
    ∧ win0_11.index t = ![(grid0.coords t 0).val, (grid0.coords t 1).val, 0] :=
  (by decide +kernel : ∀ t : Fin grid0.N, _)

/-- What point `t` writes at a place of its block is the result there. -/
theorem point (c : Dev nD) (t : Fin cfg0.N) (r : Fin 512) (e : Fin 1024) :
    row (fun d => iblk m c 0 t (ix3 0 r d))
      (fun k => iblk m c 3 t (ix3 0 r k)) (fun h d => iblk m c 4 t (ix4 0 h r d)) (fun k => iblk m c 5 t (ix3 0 r k))
      (fun j => iblk m c 6 t (ix3 0 r j)) (fun k e => iblk m c 7 t (ix2 k e)) (fun k e => iblk m c 8 t (ix2 k e))
      (fun k e => iblk m c 9 t (ix2 k e)) (fun k e => iblk m c 10 t (ix2 k e))
      (fun d => iblk m c 2 t (ix2 0 d)) (fun d => iblk m c 1 t (ix4 0 0 0 d)) e
      = result m c (((cfg0.win 11).blk t).view.emb (ix3 0 r e)) := by
  unfold result resultAt
  blk_point [iblk, V, idx t]

/-- The result array after the run. -/
theorem final (c : Dev nD) : (dats m 0 c).arrAt 11 (cfgs 0).N = result m c := by
  refine (dats m 0 c).arrAt_eq_of_covers 11 _ (by decide +kernel) fun t _ y => ?_
  blk_simp
  rw [after0_11]
  obtain ⟨a, r, e, rfl⟩ : ∃ (a : Fin 1) (r : Fin 512) (e : Fin 1024), y = ix3 a r e := ⟨y 0, y 1, y 2, eq_ix3 y⟩
  obtain rfl : a = 0 := Subsingleton.elim _ _
  rw [MergeBlock.out_at]
  exact point m c t r e

/-- It is the reference's result, from equal arguments. -/
theorem result_eq (c : Dev nD) (m' : (ℓ : Loc Cert.MergeRefIdeal.nD Cert.MergeRefIdeal.τ Cert.MergeRefIdeal.sig) → Buf (Elt Ideal) ℓ)
    (h0 : m' ((c.tc : Thread Cert.MergeRefIdeal.nD Cert.MergeRefIdeal.τ).loc Cert.MergeRefIdeal.main_arg0) = m ((c.tc : Thread nD τ).loc main_arg0))
    (h1 : m' ((c.tc : Thread Cert.MergeRefIdeal.nD Cert.MergeRefIdeal.τ).loc Cert.MergeRefIdeal.main_arg1) = m ((c.tc : Thread nD τ).loc main_arg1))
    (h2 : m' ((c.tc : Thread Cert.MergeRefIdeal.nD Cert.MergeRefIdeal.τ).loc Cert.MergeRefIdeal.main_arg2) = m ((c.tc : Thread nD τ).loc main_arg2))
    (h3 : m' ((c.tc : Thread Cert.MergeRefIdeal.nD Cert.MergeRefIdeal.τ).loc Cert.MergeRefIdeal.main_arg3) = m ((c.tc : Thread nD τ).loc main_arg3))
    (h4 : m' ((c.tc : Thread Cert.MergeRefIdeal.nD Cert.MergeRefIdeal.τ).loc Cert.MergeRefIdeal.main_arg4) = m ((c.tc : Thread nD τ).loc main_arg4))
    (h5 : m' ((c.tc : Thread Cert.MergeRefIdeal.nD Cert.MergeRefIdeal.τ).loc Cert.MergeRefIdeal.main_arg5) = m ((c.tc : Thread nD τ).loc main_arg5))
    (h6 : m' ((c.tc : Thread Cert.MergeRefIdeal.nD Cert.MergeRefIdeal.τ).loc Cert.MergeRefIdeal.main_arg6) = m ((c.tc : Thread nD τ).loc main_arg6))
    (h7 : m' ((c.tc : Thread Cert.MergeRefIdeal.nD Cert.MergeRefIdeal.τ).loc Cert.MergeRefIdeal.main_arg7) = m ((c.tc : Thread nD τ).loc main_arg7))
    (h8 : m' ((c.tc : Thread Cert.MergeRefIdeal.nD Cert.MergeRefIdeal.τ).loc Cert.MergeRefIdeal.main_arg8) = m ((c.tc : Thread nD τ).loc main_arg8))
    (h9 : m' ((c.tc : Thread Cert.MergeRefIdeal.nD Cert.MergeRefIdeal.τ).loc Cert.MergeRefIdeal.main_arg9) = m ((c.tc : Thread nD τ).loc main_arg9))
    (h10 : m' ((c.tc : Thread Cert.MergeRefIdeal.nD Cert.MergeRefIdeal.τ).loc Cert.MergeRefIdeal.main_arg10) = m ((c.tc : Thread nD τ).loc main_arg10)) :
    Cert.MergeRefIdeal.Value.res_main_v36 m' c = result m c := by
  funext i
  obtain ⟨b, s, e, rfl⟩ : ∃ (b : Fin 16) (s : Fin 4096) (e : Fin 1024), i = ix3 b s e := ⟨i 0, i 1, i 2, eq_ix3 i⟩
  refine (MergeRef.result_at m' c b s e).trans ?_
  rw [h0, h1, h2, h3, h4, h5, h6, h7, h8, h9, h10]
  rfl

end Cert.Proof.MergeValue
-- ==== Proof.InprojSpec.lean ====
/-
  The input projection of the latents on one row, over the extended reals: the columns of the product of the
  modulated row, the rotation of a head's lanes by the angles of its place in the grid, and the gated half.
-/
module

public import proofs.«01_k».proof.Proof.FfnSpec

@[expose] public section

noncomputable section

namespace Cert.Proof.InprojSpec

open Idealize.ShloMosaic

/-- Column `j` of the row's product with a matrix of `n` columns. -/
def column {n : ℕ} (h : Fin 1024 → EReal) (W : Fin 1024 → Fin n → EReal) (j : Fin n) : EReal := ∑ d, h d * W d j

/-- The rotation of lane `d` of a head's 128: each half of 32 lanes pairs lane `d` with lane `d + 16`. -/
def rotate (z cos sin : Fin 128 → EReal) (d : Fin 128) : EReal :=
  if h : d.val % 32 < 16 then z d * cos d - z ⟨d + 16, by omega⟩ * sin d else z d * cos d + z ⟨d - 16, by omega⟩ * sin d

/-- The kernel's rotation: the lanes turned by 16 either way, each under its own table of sines. -/
def turned (z cos sa sb : Fin 128 → EReal) (d : Fin 128) : EReal :=
  z d * cos d + z ⟨(d + 16) % 128, by omega⟩ * sa d + z ⟨(d + 112) % 128, by omega⟩ * sb d

/-- With the sine negated and masked into the two tables, the turned lanes are the rotation. -/
theorem turned_eq (z cos sin sa sb : Fin 128 → EReal) (d : Fin 128)
    (ha : sa d = if d.val % 32 < 16 then -sin d else 0) (hb : sb d = if d.val % 32 < 16 then 0 else sin d) :
    turned z cos sa sb d = rotate z cos sin d := by
  unfold turned rotate
  rw [ha, hb]
  by_cases h : d.val % 32 < 16
  · rw [if_pos h, if_pos h, dif_pos h, mul_zero, add_zero, mul_neg, ← sub_eq_add_neg]
    congr 3
    exact Fin.ext (by show (d.val + 16) % 128 = d.val + 16; omega)
  · rw [if_neg h, if_neg h, dif_neg h, mul_zero, add_zero]
    congr 3
    exact Fin.ext (by show (d.val + 112) % 128 = d.val - 16; omega)

/-- The frequency of lane `l` of 16: `10000` to the power `-2 l / 32`. -/
def freq (l : Fin 16) : EReal :=
  Ideal.pow (Ideal.ofBits .f32 0x461C4000#32)
    (Ideal.div (-(Ideal.ofBits .f32 0x40000000#32 * FloatOps.sitofp (F := Ideal) .f32 (BitVec.ofNat 32 l.val))) (Ideal.ofBits .f32 0x42000000#32))

/-- The number a place is turned by: its row in the grid of 64 by 64 under the first 32 lanes of each 64, its column under
    the others. -/
def coordinate (s : Fin 4096) (d : Fin 128) : EReal :=
  if d.val % 64 < 32 then FloatOps.sitofp (F := Ideal) .f32 (BitVec.ofNat 32 (s.val / 64))
  else FloatOps.sitofp (F := Ideal) .f32 (BitVec.ofNat 32 (s.val % 64))

/-- The angle of lane `d` at place `s`. -/
def angle (s : Fin 4096) (d : Fin 128) : EReal := coordinate s d * freq ⟨d.val % 16, by omega⟩

/-- The scale the queries carry: the head's `1/8` and `log2 e`. -/
def scale : EReal := Ideal.ofBits .f32 0x3E38AA3B#32

end Cert.Proof.InprojSpec
-- ==== Proof.InprojBlock.lean ====
/-
  What the input projection's body leaves in its six output blocks, at an index: row `r` of each block is the
  projection of row `r` of the input block.
-/
module

public import proofs.«01_k».proof.Proof.InprojSpec
public import proofs.«01_k».proof.Proof.Gen.InprojIdeal.Frame
public import Idealize.ShloMosaic.Lib.Pipeline.ValueKit
public import Idealize.ShloMosaic.Lib.Pointwise

@[expose] public section

set_option maxRecDepth 16384

noncomputable section

namespace Cert.Proof.InprojBlock

open Cert.InprojIdeal Cert.InprojIdeal.Gen Cert.Proof.InprojSpec
open Idealize.ShloMosaic Idealize.ShloMosaic.TcCoe Idealize.SL.Sem

section Payloads

variable (x0 : Vec Ideal S1x512x1024 .f32) (x1 x2 : Vec Ideal S1x1x1x1024 .f32) (x3 : Vec Ideal S1x1024 .f32)
  (H : FVec Ideal S512x1024 .bf16) (W : Vec Ideal S1024x1024 .bf16) (C A B : Vec Ideal S512x128 .f32)

/-- Row `r` of the block after the norm and the modulation. -/
abbrev normed (r : Fin 512) : Fin 1024 → EReal :=
  FfnSpec.modulated (fun d => x0 (ix3 0 r d)) (fun d => x3 (ix2 0 d)) (fun d => x1 (ix4 0 0 0 d)) (fun d => x2 (ix4 0 0 0 d))

/-- The modulated row. -/
theorem normed_at (r : Fin 512) (d : Fin 1024) : k0_pay2 x0 x3 x1 x2 (ix2 r d) = normed x0 x1 x2 x3 r d := by
  pointwise [k0_pay2]
  rfl

/-- The queries' product. -/
theorem zq_at (r : Fin 512) (j : Fin 1024) :
    k0_pay8 H W (ix2 r j) = column (fun d => H (ix2 r d)) (fun d j => W (ix2 d j)) j := by
  pointwise [k0_pay8]
  rfl

/-- The keys' product. -/
theorem zk_at (r : Fin 512) (j : Fin 1024) :
    k0_pay22 H W (ix2 r j) = column (fun d => H (ix2 r d)) (fun d j => W (ix2 d j)) j := by
  pointwise [k0_pay22]
  rfl

/-- The values' product is taken with the rows of the transposed weights. -/
theorem zv_at (e : Fin 1024) (r : Fin 512) :
    k0_pay34 H W (constant S1024x512 .f32 0x00000000#32) (ix2 e r) = column (fun d => H (ix2 r d)) (fun d j => W (ix2 j d)) e := by
  pointwise [k0_pay34]
  unfold column
  simp only [mul_comm]

/-- The rows under a head's 128 value rows: one of ones, then zeros. -/
theorem ones_at (e : Fin 16) (r : Fin 512) : k0_pay35 (F := Ideal) (ix2 e r) = if e.val = 0 then 1 else 0 := by
  pointwise [k0_pay35]
  have h : ∀ e : Fin 16, BitVec.setWidth 32 (IntOp.cmpi .eq (BitVec.ofNat 32 e) 0#32) = if e.val = 0 then 1#32 else 0#32 := by
    decide +kernel
  show (((BitVec.setWidth 32 (IntOp.cmpi .eq (BitVec.ofNat 32 e) 0#32)).toInt : ℝ) : EReal) = _
  rw [h e]
  split <;> simp

end Payloads

/-- A turn by 112 of 128 lanes reads the lane 16 on, -/
theorem back16 (d : ℕ) : d + 128 - 112 = d + 16 := by omega

/-- and a turn by 16 the lane 112 on. -/
theorem on16 (d : ℕ) : d + 128 - 16 = d + 112 := by omega

variable (m : (ℓ : Loc nD τ sig) → Buf (Elt Ideal) ℓ)

/-- The modulated row `r` of point `t`'s block. -/
abbrev row (c : Dev nD) (t : Fin cfg0.N) (r : Fin 512) : Fin 1024 → EReal :=
  normed (iblk m c 0 t) (iblk m c 1 t) (iblk m c 2 t) (iblk m c 3 t) r

/-- The gated convolution channels. -/
theorem u_at (c : Dev nD) (t : Fin cfg0.N) (r : Fin 512) (e : Fin 512) : (outsAt0 m c t).1 (ix3 0 r e)
    = column (row m c t r) (fun d j => iblk m c 4 t (ix2 d j)) ⟨e, by omega⟩
      * Ideal.logistic (column (row m c t r) (fun d j => iblk m c 4 t (ix2 d j)) ⟨512 + e, by omega⟩) := by
  unfold outsAt0
  frame_out
  unfold row column
  generalize iblk m c 0 t = x0, iblk m c 1 t = x1, iblk m c 2 t = x2, iblk m c 3 t = x3, iblk m c 4 t = x4
  simp only [← normed_at]
  unfold k0_pay3
  generalize k0_pay2 (F := Ideal) _ _ _ _ = H
  pointwise [k0_pay4]

/-- The queries, rotated and scaled. -/
theorem q_at (c : Dev nD) (t : Fin cfg0.N) (n : Fin 8) (r : Fin 512) (d : Fin 128) : (outsAt0 m c t).2.1 (ix4 0 n r d)
    = turned (fun d => column (row m c t r) (fun d j => iblk m c 4 t (ix2 d j)) ⟨1024 + (128 * n + d), by omega⟩)
        (fun d => iblk m c 7 t (ix2 r d)) (fun d => iblk m c 8 t (ix2 r d)) (fun d => iblk m c 9 t (ix2 r d)) d * scale := by
  unfold outsAt0
  frame_out
  unfold row
  generalize iblk m c 0 t = x0, iblk m c 1 t = x1, iblk m c 2 t = x2, iblk m c 3 t = x3, iblk m c 4 t = x4, iblk m c 7 t = x7,
    iblk m c 8 t = x8, iblk m c 9 t = x9
  have hz : ∀ j : Fin 1024, column (normed x0 x1 x2 x3 r) (fun d j => x4 (ix2 d j)) ⟨1024 + j, by omega⟩
      = k0_pay8 (k0_pay2 x0 x3 x1 x2) (View.ld x4 (Rect.unit ![0, 1024] ![1024, 1024] inb_S1024x6656_S1024x1024_0_1024)) (ix2 r j) := by
    intro j
    rw [zq_at]
    simp only [normed_at]
    pointwise
    rfl
  have hz' : ∀ d : Fin 128, column (normed x0 x1 x2 x3 r) (fun d j => x4 (ix2 d j)) ⟨1024 + (128 * n + d), by omega⟩ = _ :=
    fun d => hz ⟨128 * n + d, by omega⟩
  simp only [hz']
  unfold k0_pay9 k0_pay10
  generalize k0_pay8 (F := Ideal) _ _ = Z
  canon_tiles x h
  all_goals
    have e1 : (x 1).val = 0 := by omega
    rw [e1] at h1
    change n.val = _ at h1
    obtain ⟨a, b, r', d', rfl⟩ : ∃ (a : Fin 1) (b : Fin 1) (r' : Fin 512) (d' : Fin 128), x = ix4 a b r' d' := ⟨x 0, x 1, x 2, x 3, eq_ix4 x⟩
    obtain rfl : r = r' := Fin.ext h2
    obtain rfl : d = d' := Fin.ext h3
    simp only [turned, scale, h1]
    pointwise [k0_pay5, k0_pay6, k0_pay7, k0_pay11, k0_pay12, k0_pay13, k0_pay14, k0_pay15, k0_pay16, k0_pay17, k0_pay18, k0_pay19, k0_pay20, k0_pay21]
    simp only [back16, on16]

/-- The keys, rotated. -/
theorem k_at (c : Dev nD) (t : Fin cfg0.N) (n : Fin 8) (r : Fin 512) (d : Fin 128) : (outsAt0 m c t).2.2.1 (ix4 0 n r d)
    = turned (fun d => column (row m c t r) (fun d j => iblk m c 4 t (ix2 d j)) ⟨2048 + (128 * n + d), by omega⟩)
        (fun d => iblk m c 7 t (ix2 r d)) (fun d => iblk m c 8 t (ix2 r d)) (fun d => iblk m c 9 t (ix2 r d)) d := by
  unfold outsAt0
  frame_out
  unfold row
  generalize iblk m c 0 t = x0, iblk m c 1 t = x1, iblk m c 2 t = x2, iblk m c 3 t = x3, iblk m c 4 t = x4, iblk m c 7 t = x7,
    iblk m c 8 t = x8, iblk m c 9 t = x9
  have hz : ∀ j : Fin 1024, column (normed x0 x1 x2 x3 r) (fun d j => x4 (ix2 d j)) ⟨2048 + j, by omega⟩
      = k0_pay22 (k0_pay2 x0 x3 x1 x2) (View.ld x4 (Rect.unit ![0, 2048] ![1024, 1024] inb_S1024x6656_S1024x1024_0_2048)) (ix2 r j) := by
    intro j
    rw [zk_at]
    simp only [normed_at]
    pointwise
    rfl
  have hz' : ∀ d : Fin 128, column (normed x0 x1 x2 x3 r) (fun d j => x4 (ix2 d j)) ⟨2048 + (128 * n + d), by omega⟩ = _ :=
    fun d => hz ⟨128 * n + d, by omega⟩
  simp only [hz']
  unfold k0_pay23 k0_pay24
  generalize k0_pay22 (F := Ideal) _ _ = Z
  canon_tiles x h
  all_goals
    have e1 : (x 1).val = 0 := by omega
    rw [e1] at h1
    change n.val = _ at h1
    obtain ⟨a, b, r', d', rfl⟩ : ∃ (a : Fin 1) (b : Fin 1) (r' : Fin 512) (d' : Fin 128), x = ix4 a b r' d' := ⟨x 0, x 1, x 2, x 3, eq_ix4 x⟩
    obtain rfl : r = r' := Fin.ext h2
    obtain rfl : d = d' := Fin.ext h3
    simp only [turned, h1]
    pointwise [k0_pay5, k0_pay6, k0_pay7, k0_pay25, k0_pay26, k0_pay27, k0_pay28, k0_pay29, k0_pay30, k0_pay31, k0_pay32]
    simp only [back16, on16]

/-- The transposed values, over a row of ones and fifteen of zeros. -/
theorem v_at (c : Dev nD) (t : Fin cfg0.N) (n : Fin 8) (e : Fin 144) (r : Fin 512) : (outsAt0 m c t).2.2.2.1 (ix5 0 n 0 e r)
    = if h : e.val < 128 then column (row m c t r) (fun d j => iblk m c 5 t (ix2 j d)) ⟨128 * n + e, by omega⟩
      else if e.val = 128 then 1 else 0 := by
  unfold outsAt0
  frame_out
  unfold row
  generalize iblk m c 0 t = x0, iblk m c 1 t = x1, iblk m c 2 t = x2, iblk m c 3 t = x3, iblk m c 5 t = x5
  have hz : ∀ j : Fin 1024, column (normed x0 x1 x2 x3 r) (fun d j => x5 (ix2 j d)) j
      = k0_pay34 (k0_pay2 x0 x3 x1 x2) (k0_pay33 x5) (constant S1024x512 .f32 0x00000000#32) (ix2 j r) := by
    intro j
    rw [zv_at]
    simp only [normed_at]
    pointwise [k0_pay33]
  simp only [hz]
  unfold k0_pay36 k0_pay38 k0_pay40 k0_pay37 k0_pay39
  generalize k0_pay34 (F := Ideal) _ _ _ = Z
  have ho : ∀ e : Fin 16, k0_pay35 (F := Ideal) (ix2 e r) = if 128 + e.val = 128 then 1 else 0 := fun e => by
    simp only [ones_at, Nat.add_eq_left]
  generalize k0_pay35 (F := Ideal) = O at ho ⊢
  canon_tiles x h using View.cover_of_tiledBy _ ![1, 1, 1, 16, 512] (by sl_kernel_rfl) _
  all_goals
    have e1 : (x 1).val = 0 := by omega
    rw [e1] at h1
    change n.val = _ at h1
    change e.val = _ at h3
    obtain ⟨a, b, a', e', r', rfl⟩ : ∃ (a : Fin 1) (b : Fin 1) (a' : Fin 1) (e' : Fin _) (r' : Fin 512), x = ix5 a b a' e' r' :=
      ⟨x 0, x 1, x 2, x 3, x 4, eq_ix5 x⟩
    obtain rfl : r = r' := Fin.ext h4
    obtain ⟨e, he⟩ := e
    obtain rfl : e = _ := h3
    simp only [h1]
    pointwise [k0_pay36, k0_pay37, k0_pay38, k0_pay39, k0_pay40, k0_pay41, k0_pay42, k0_pay43, k0_pay44, k0_pay45, k0_pay46, k0_pay47,
      k0_pay48, k0_pay49, k0_pay50, k0_pay51]
    try exact ho _

/-- The pooled channels. -/
theorem p_at (c : Dev nD) (t : Fin cfg0.N) (r : Fin 512) (e : Fin 512) : (outsAt0 m c t).2.2.2.2.1 (ix3 0 r e)
    = column (row m c t r) (fun d j => iblk m c 4 t (ix2 d j)) ⟨3072 + e, by omega⟩ := by
  unfold outsAt0
  frame_out
  unfold row column
  generalize iblk m c 0 t = x0, iblk m c 1 t = x1, iblk m c 2 t = x2, iblk m c 3 t = x3, iblk m c 4 t = x4
  simp only [← normed_at]
  generalize k0_pay2 (F := Ideal) _ _ _ _ = H
  pointwise [k0_pay52]

/-- The gates. -/
theorem g_at (c : Dev nD) (t : Fin cfg0.N) (r : Fin 512) (e : Fin 3072) : (outsAt0 m c t).2.2.2.2.2 (ix3 0 r e)
    = Ideal.logistic (column (row m c t r) (fun d j => iblk m c 4 t (ix2 d j)) ⟨3584 + e, by omega⟩ + iblk m c 6 t (ix2 0 e)) := by
  unfold outsAt0
  frame_out
  unfold row column
  generalize iblk m c 0 t = x0, iblk m c 1 t = x1, iblk m c 2 t = x2, iblk m c 3 t = x3, iblk m c 4 t = x4, iblk m c 6 t = x6
  simp only [← normed_at]
  generalize k0_pay2 (F := Ideal) _ _ _ _ = H
  canon_tiles x h
  all_goals
    change e.val = _ at h2
    obtain ⟨a, r', e', rfl⟩ : ∃ (a : Fin 1) (r' : Fin 512) (e' : Fin 1024), x = ix3 a r' e' := ⟨x 0, x 1, x 2, eq_ix3 x⟩
    obtain rfl : r = r' := Fin.ext h1
    obtain ⟨e, he⟩ := e
    obtain rfl : e = _ := h2
    pointwise [k0_pay1, k0_pay53, k0_pay54, k0_pay55]
    try simp only [← Nat.add_assoc, Nat.reduceAdd]

end Cert.Proof.InprojBlock
-- ==== Proof.InprojTables.lean ====
/-
  The tables of cosines and sines the host makes for the input projection: each lane's angle at each place of the grid.
-/
module

public import proofs.«01_k».proof.Proof.InprojBlock

@[expose] public section

set_option maxRecDepth 16384

noncomputable section

namespace Cert.Proof.InprojTables

open Cert.InprojIdeal Cert.InprojIdeal.Gen Cert.Proof.InprojSpec
open Idealize.ShloMosaic Idealize.ShloMosaic.TcCoe Idealize.SL.Sem
open Idealize.ShloMosaic.Pipeline (Dat)

variable (m : (ℓ : Loc nD τ sig) → Buf (Elt Ideal) ℓ)

/-- The divisor of a remainder, one in place of zero. -/
def divisor (b : IVec S_ 32) : IVec S_ 32 := select (cmpi .eq b (constantI S_ 32 0#32)) (constantI S_ 32 1#32) b

/-- The remainder of each lane's number by one divisor, with the divisor's sign. -/
def remainder (x : IVec S128 32) (b : IVec S_ 32) : IVec S128 32 :=
  select (andi (cmpi .ne (cmpi .slt (Host.remsi x (broadcastInDim S128 ![] bcast_S_S128 (divisor b))) (broadcastInDim S128 ![] bcast_S_S128 (constantI S_ 32 0#32)))
      (broadcastInDim S128 ![] bcast_S_S128 (cmpi .slt (divisor b) (constantI S_ 32 0#32))))
    (cmpi .ne (Host.remsi x (broadcastInDim S128 ![] bcast_S_S128 (divisor b))) (broadcastInDim S128 ![] bcast_S_S128 (constantI S_ 32 0#32))))
    (addi (Host.remsi x (broadcastInDim S128 ![] bcast_S_S128 (divisor b))) (broadcastInDim S128 ![] bcast_S_S128 (divisor b)))
    (Host.remsi x (broadcastInDim S128 ![] bcast_S_S128 (divisor b)))

/-- A lane's place among the 64 of its half, -/
def lane64 : IVec S128 32 := remainder (iotaInDim S128 32 0) (constantI S_ 32 64#32)
/-- among 32, -/
def lane32 : IVec S128 32 := remainder lane64 (constantI S_ 32 32#32)
/-- and among 16, as an index. -/
def lane16 : IVec S128 32 :=
  let l := remainder lane64 (constantI S_ 32 16#32)
  select (cmpi .slt l (broadcastInDim S128 ![] bcast_S_S128 (constantI S_ 32 0#32)))
    (addi l (broadcastInDim S128 ![] bcast_S_S128 (constantI S_ 32 16#32))) l

/-- The lane numbers at a lane: its place in its 64, -/
theorem lane64_at : ∀ d : Fin 128, lane64 (ix1 d) = BitVec.ofNat 32 (d.val % 64) := by decide +kernel
/-- in its 32 -/
theorem lane32_at : ∀ d : Fin 128, lane32 (ix1 d) = BitVec.ofNat 32 (d.val % 32) := by decide +kernel
/-- and in its 16. -/
theorem lane16_at : ∀ d : Fin 128, lane16 (ix1 d) = BitVec.ofNat 32 (d.val % 16) := by decide +kernel

/-- The sixteen frequencies. -/
def freqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

/-- Each place's row of the grid of 64 by 64, -/
def rows : FVec Ideal S4096 .f32 :=
  sitofp .f32 (shapeCast S4096 (broadcastInDim S64x64 ![0] bcast_S64_S64x64_0 (iotaInDim S64 32 0)) shapeCasts_S64x64_S4096)
/-- and its column. -/
def cols : FVec Ideal S4096 .f32 :=
  sitofp .f32 (shapeCast S4096 (broadcastInDim S64x64 ![0, 1] bcast_S1x64_S64x64_0_1 (shapeCast S1x64 (iotaInDim S64 32 0) shapeCasts_S64_S1x64)) shapeCasts_S64x64_S4096)

/-- The angles: the row's under the first 32 lanes of each 64, the column's under the rest. -/
def angles : FVec Ideal S4096x128 .f32 :=
  mulf (select (broadcastInDim S4096x128 ![0, 1] bcast_S1x128_S4096x128_0_1 (broadcastInDim S1x128 ![1] bcast_S128_S1x128_1
        (cmpi .slt lane64 (broadcastInDim S128 ![] bcast_S_S128 (constantI S_ 32 32#32)))))
      (broadcastInDim S4096x128 ![0, 1] bcast_S4096x1_S4096x128_0_1 (broadcastInDim S4096x1 ![0] bcast_S4096_S4096x1_0 rows))
      (broadcastInDim S4096x128 ![0, 1] bcast_S4096x1_S4096x128_0_1 (broadcastInDim S4096x1 ![0] bcast_S4096_S4096x1_0 cols)))
    (broadcastInDim S4096x128 ![0, 1] bcast_S1x128_S4096x128_0_1 (broadcastInDim S1x128 ![1] bcast_S128_S1x128_1
      (Host.gather gather_S16_S128x1_S128_n_0_n_n_0_1_1 freqs (broadcastInDim S128x1 ![0] bcast_S128_S128x1_0 lane16))))

/-- The lanes of the first half of each 32. -/
def firsts : IVec S4096x128 1 :=
  broadcastInDim S4096x128 ![0, 1] bcast_S1x128_S4096x128_0_1 (broadcastInDim S1x128 ![1] bcast_S128_S1x128_1
    (cmpi .slt lane32 (broadcastInDim S128 ![] bcast_S_S128 (constantI S_ 32 16#32))))

/-- A table of zeros. -/
def zeros : FVec Ideal S4096x128 .f32 := broadcastInDim S4096x128 ![] bcast_S_S4096x128 (id (constant S_ .f32 0x00000000#32))

/-- The line of operations after another. -/
theorem after_append (l l' : List (HloOp τ sig (Elt Ideal))) (σ : Valuation τ sig (Elt Ideal)) :
    StableHlo.after (l ++ l') σ = StableHlo.after l' (StableHlo.after l σ) := by
  induction l generalizing σ with
  | nil => rfl
  | cons o l ih => exact ih _

/-- The contents of one of the host's buffers. -/
abbrev buf (σ : Valuation τ sig (Elt Ideal)) (r : Ref sig .tc) := σ (Proc.devRef .tc r)

/-- The buffers after the host's lines, one line at a time. -/
def s1 (c : Dev nD) : Valuation τ sig (Elt Ideal) := StableHlo.after hostOps0 fun b => m (c, b)
@[inherit_doc s1] def s2 (c : Dev nD) : Valuation τ sig (Elt Ideal) := StableHlo.after hostOps0_1 (s1 m c)
@[inherit_doc s1] def s3 (c : Dev nD) : Valuation τ sig (Elt Ideal) := StableHlo.after hostOps0_2 (s2 m c)
@[inherit_doc s1] def s4 (c : Dev nD) : Valuation τ sig (Elt Ideal) := StableHlo.after hostOps0_3 (s3 m c)
@[inherit_doc s1] def s5 (c : Dev nD) : Valuation τ sig (Elt Ideal) := StableHlo.after hostOps0_4 (s4 m c)
@[inherit_doc s1] def s6 (c : Dev nD) : Valuation τ sig (Elt Ideal) := StableHlo.after hostOps0_5 (s5 m c)
@[inherit_doc s1] def s7 (c : Dev nD) : Valuation τ sig (Elt Ideal) := StableHlo.after hostOps0_6 (s6 m c)
@[inherit_doc s1] def s8 (c : Dev nD) : Valuation τ sig (Elt Ideal) := StableHlo.after hostOps0_7 (s7 m c)
@[inherit_doc s1] def s9 (c : Dev nD) : Valuation τ sig (Elt Ideal) := StableHlo.after hostOps0_8 (s8 m c)
@[inherit_doc s1] def s10 (c : Dev nD) : Valuation τ sig (Elt Ideal) := StableHlo.after hostOps0_9 (s9 m c)
@[inherit_doc s1] def s11 (c : Dev nD) : Valuation τ sig (Elt Ideal) := StableHlo.after hostOps0_10 (s10 m c)
@[inherit_doc s1] def s12 (c : Dev nD) : Valuation τ sig (Elt Ideal) := StableHlo.after hostOps0_11 (s11 m c)

/-- What the call starts from is what the last line leaves. -/
theorem entry_eq (c : Dev nD) (r : Ref sig .tc) : V m c r = buf (s12 m c) r := by
  unfold s12 s11 s10 s9 s8 s7 s6 s5 s4 s3 s2 s1
  simp only [← after_append]
  rfl

/-- The first line: the rows, the columns, the frequencies and the lanes' numbers. -/
theorem first (c : Dev nD) : buf (s1 m c) main_v13 = rows ∧ buf (s1 m c) main_v18 = cols ∧ buf (s1 m c) main_v28 = freqs
    ∧ buf (s1 m c) main_v29 = iotaInDim S128 32 0 ∧ buf (s1 m c) main_c = constantI S_ 32 64#32 := ⟨rfl, rfl, rfl, rfl, rfl⟩

/-- One remainder after another. -/
theorem rem64 (σ : Valuation τ sig (Elt Ideal)) :
    buf (StableHlo.after hostOps0_1 σ) main_v30 = remainder (buf σ main_v29) (buf σ main_c) := by
  unfold buf remainder divisor
  after_results_simp
  simp only [StableHlo.TRef.ofBuf_toBuf]
  rfl

@[inherit_doc rem64] theorem rem16 (σ : Valuation τ sig (Elt Ideal)) :
    buf (StableHlo.after hostOps0_3 σ) main_v31 = remainder (buf σ main_v30) (buf σ main_c_3) := by
  unfold buf remainder divisor
  after_results_simp
  simp only [StableHlo.TRef.ofBuf_toBuf]
  rfl

@[inherit_doc rem64] theorem rem32 (σ : Valuation τ sig (Elt Ideal)) :
    buf (StableHlo.after hostOps0_7 σ) main_v48 = remainder (buf σ main_v30) (buf σ main_c_7) := by
  unfold buf remainder divisor
  after_results_simp
  simp only [StableHlo.TRef.ofBuf_toBuf]
  rfl

/-- The lanes' places among 64, -/
theorem lane64_s2 (c : Dev nD) : buf (s2 m c) main_v30 = lane64 := by
  refine (rem64 (s1 m c)).trans ?_
  rw [(first m c).2.2.2.1, (first m c).2.2.2.2]
  rfl

/-- among 16, -/
theorem lane16_s4 (c : Dev nD) : buf (s4 m c) main_v31 = remainder lane64 (constantI S_ 32 16#32) := by
  refine (rem16 (s3 m c)).trans ?_
  rw [show buf (s3 m c) main_v30 = buf (s2 m c) main_v30 from rfl, lane64_s2]
  rfl

/-- What one line leaves in each of its buffers, from what it finds: the choice of the row or the column, -/
theorem line_pick (σ : Valuation τ sig (Elt Ideal)) : buf (StableHlo.after hostOps0_4 σ) main_v41
    = broadcastInDim S1x128 ![1] bcast_S128_S1x128_1 (cmpi .slt (buf σ main_v30 : IVec S128 32) (broadcastInDim S128 ![] bcast_S_S128 (constantI S_ 32 32#32))) := rfl

/-- the frequencies at an index, -/
theorem line_freq (σ : Valuation τ sig (Elt Ideal)) : buf (StableHlo.after hostOps0_4 σ) main_v38
    = Host.gather gather_S16_S128x1_S128_n_0_n_n_0_1_1 (buf σ main_v28 : FVec Ideal S16 .f32) (broadcastInDim S128x1 ![0] bcast_S128_S128x1_0
      (select (cmpi .slt (buf σ main_v31 : IVec S128 32) (broadcastInDim S128 ![] bcast_S_S128 (constantI S_ 32 0#32)))
        (addi (buf σ main_v31 : IVec S128 32) (broadcastInDim S128 ![] bcast_S_S128 (constantI S_ 32 16#32))) (buf σ main_v31))) := rfl

/-- the rows and the columns as columns of an array, -/
theorem line_row (σ : Valuation τ sig (Elt Ideal)) : buf (StableHlo.after hostOps0_4 σ) main_v42
    = broadcastInDim S4096x1 ![0] bcast_S4096_S4096x1_0 (buf σ main_v13 : FVec Ideal S4096 .f32) := rfl
@[inherit_doc line_row] theorem line_col (σ : Valuation τ sig (Elt Ideal)) : buf (StableHlo.after hostOps0_4 σ) main_v43
    = broadcastInDim S4096x1 ![0] bcast_S4096_S4096x1_0 (buf σ main_v18 : FVec Ideal S4096 .f32) := rfl

/-- the chosen one, -/
theorem line_chosen (σ : Valuation τ sig (Elt Ideal)) : buf (StableHlo.after hostOps0_5 σ) main_v44
    = select (broadcastInDim S4096x128 ![0, 1] bcast_S1x128_S4096x128_0_1 (buf σ main_v41 : IVec S1x128 1))
      (broadcastInDim S4096x128 ![0, 1] bcast_S4096x1_S4096x128_0_1 (buf σ main_v42 : FVec Ideal S4096x1 .f32))
      (broadcastInDim S4096x128 ![0, 1] bcast_S4096x1_S4096x128_0_1 (buf σ main_v43 : FVec Ideal S4096x1 .f32)) := rfl

/-- its product with the frequency, -/
theorem line_angle (σ : Valuation τ sig (Elt Ideal)) : buf (StableHlo.after hostOps0_6 σ) main_v47
    = (mulf (buf σ main_v44 : FVec Ideal S4096x128 .f32) (broadcastInDim S4096x128 ![0, 1] bcast_S1x128_S4096x128_0_1
      (broadcastInDim S1x128 ![1] bcast_S128_S1x128_1 (buf σ main_v38 : FVec Ideal S128 .f32))) : FVec Ideal S4096x128 .f32) := rfl

/-- the lanes of each first half, -/
theorem line_first (σ : Valuation τ sig (Elt Ideal)) : buf (StableHlo.after hostOps0_8 σ) main_v51
    = broadcastInDim S1x128 ![1] bcast_S128_S1x128_1 (cmpi .slt (buf σ main_v48 : IVec S128 32) (broadcastInDim S128 ![] bcast_S_S128 (constantI S_ 32 16#32))) := rfl

/-- the cosine, the sine and its negative, -/
theorem line_cos (σ : Valuation τ sig (Elt Ideal)) : buf (StableHlo.after hostOps0_8 σ) main_v53 = (Host.cos (buf σ main_v47 : FVec Ideal S4096x128 .f32) : FVec Ideal S4096x128 .f32) := rfl
@[inherit_doc line_cos] theorem line_sin (σ : Valuation τ sig (Elt Ideal)) : buf (StableHlo.after hostOps0_8 σ) main_v52 = (Host.sin (buf σ main_v47 : FVec Ideal S4096x128 .f32) : FVec Ideal S4096x128 .f32) := rfl
@[inherit_doc line_cos] theorem line_neg (σ : Valuation τ sig (Elt Ideal)) : buf (StableHlo.after hostOps0_8 σ) main_v54 = (Host.negf (Host.sin (buf σ main_v47 : FVec Ideal S4096x128 .f32)) : FVec Ideal S4096x128 .f32) := rfl

/-- and the two masked tables. -/
theorem line_sa (σ : Valuation τ sig (Elt Ideal)) : buf (StableHlo.after hostOps0_9 σ) main_v55
    = select (broadcastInDim S4096x128 ![0, 1] bcast_S1x128_S4096x128_0_1 (buf σ main_v51 : IVec S1x128 1)) (buf σ main_v54 : FVec Ideal S4096x128 .f32)
      (broadcastInDim S4096x128 ![] bcast_S_S4096x128 (id (buf σ main_cst_9 : FVec Ideal S_ .f32))) := rfl
@[inherit_doc line_sa] theorem line_sb (σ : Valuation τ sig (Elt Ideal)) : buf (StableHlo.after hostOps0_11 σ) main_v56
    = select (broadcastInDim S4096x128 ![0, 1] bcast_S1x128_S4096x128_0_1 (buf σ main_v51 : IVec S1x128 1))
      (broadcastInDim S4096x128 ![] bcast_S_S4096x128 (id (buf σ main_cst_10 : FVec Ideal S_ .f32))) (buf σ main_v52 : FVec Ideal S4096x128 .f32) := rfl

/-- The angles. -/
theorem angles_s7 (c : Dev nD) : buf (s7 m c) main_v47 = angles := by
  have h44 : buf (s6 m c) main_v44 = _ := line_chosen (s5 m c)
  have h41 : buf (s5 m c) main_v41 = _ := line_pick (s4 m c)
  have h42 : buf (s5 m c) main_v42 = _ := line_row (s4 m c)
  have h43 : buf (s5 m c) main_v43 = _ := line_col (s4 m c)
  have h38 : buf (s5 m c) main_v38 = _ := line_freq (s4 m c)
  rw [show buf (s4 m c) main_v30 = buf (s2 m c) main_v30 from rfl, lane64_s2] at h41
  rw [show buf (s4 m c) main_v13 = buf (s1 m c) main_v13 from rfl, (first m c).1] at h42
  rw [show buf (s4 m c) main_v18 = buf (s1 m c) main_v18 from rfl, (first m c).2.1] at h43
  rw [show buf (s4 m c) main_v28 = buf (s1 m c) main_v28 from rfl, (first m c).2.2.1, lane16_s4] at h38
  rw [h41, h42, h43] at h44
  refine (line_angle (s6 m c)).trans ?_
  rw [h44, show buf (s6 m c) main_v38 = buf (s5 m c) main_v38 from rfl, h38]
  rfl

/-- and the lanes' places among 32. -/
theorem lane32_s8 (c : Dev nD) : buf (s8 m c) main_v48 = lane32 := by
  refine (rem32 (s7 m c)).trans ?_
  rw [show buf (s7 m c) main_v30 = buf (s2 m c) main_v30 from rfl, lane64_s2]
  rfl

/-- The lanes of each first half, the sines and their negatives. -/
theorem parts_s9 (c : Dev nD) : buf (s9 m c) main_v51 = broadcastInDim S1x128 ![1] bcast_S128_S1x128_1
      (cmpi .slt lane32 (broadcastInDim S128 ![] bcast_S_S128 (constantI S_ 32 16#32)))
    ∧ buf (s9 m c) main_v53 = Host.cos angles ∧ buf (s9 m c) main_v52 = Host.sin angles ∧ buf (s9 m c) main_v54 = Host.negf (Host.sin angles) := by
  have h47 : buf (s8 m c) main_v47 = angles := (show buf (s8 m c) main_v47 = buf (s7 m c) main_v47 from rfl).trans (angles_s7 m c)
  refine ⟨(line_first (s8 m c)).trans ?_, (line_cos (s8 m c)).trans ?_, (line_sin (s8 m c)).trans ?_, (line_neg (s8 m c)).trans ?_⟩
  · rw [lane32_s8]
  · rw [h47]
  · rw [h47]
  · rw [h47]

/-- The call's tables: the cosines, -/
theorem cos_arr (c : Dev nD) : V m c main_v53 = Host.cos angles :=
  (entry_eq m c _).trans ((show buf (s12 m c) main_v53 = buf (s9 m c) main_v53 from rfl).trans (parts_s9 m c).2.1)

/-- the sines negated, in the first half of each 32 lanes, -/
theorem sa_arr (c : Dev nD) : V m c main_v55 = select firsts (Host.negf (Host.sin angles)) zeros := by
  refine (entry_eq m c _).trans ((show buf (s12 m c) main_v55 = buf (s10 m c) main_v55 from rfl).trans ((line_sa (s9 m c)).trans ?_))
  rw [(parts_s9 m c).1, (parts_s9 m c).2.2.2]
  rfl

/-- and the sines in the second half. -/
theorem sb_arr (c : Dev nD) : V m c main_v56 = select firsts zeros (Host.sin angles) := by
  refine (entry_eq m c _).trans ((line_sb (s11 m c)).trans ?_)
  rw [show buf (s11 m c) main_v51 = buf (s9 m c) main_v51 from rfl, show buf (s11 m c) main_v52 = buf (s9 m c) main_v52 from rfl,
    (parts_s9 m c).1, (parts_s9 m c).2.2.1]
  rfl

/-- A lane's frequency is that of its place among 16. -/
theorem freqs_at (l : Fin 16) : freqs (ix1 l) = freq l := by
  pointwise [freqs]
  rfl

/-- Each lane gathers from its place among 16. -/
theorem source : ∀ d : Fin 128, Host.gather gather_S16_S128x1_S128_n_0_n_n_0_1_1 (fun i : S16.Idx => (i 0).val)
    (broadcastInDim S128x1 ![0] bcast_S128_S128x1_0 lane16) (ix1 d) = d.val % 16 := by
  decide +kernel

/-- The gathered frequencies. -/
theorem gathered_at (d : Fin 128) : Host.gather gather_S16_S128x1_S128_n_0_n_n_0_1_1 freqs (broadcastInDim S128x1 ![0] bcast_S128_S128x1_0 lane16) (ix1 d)
    = freq ⟨d.val % 16, by omega⟩ := by
  rw [← freqs_at]
  exact congrArg freqs ((eq_ix1 _).trans (congrArg ix1 (Fin.ext (source d))))

/-- Where the row is chosen, -/
theorem choice : ∀ d : Fin 128, IntOp.cmpi .slt (BitVec.ofNat 32 (d.val % 64)) 32#32 = if d.val % 64 < 32 then 1#1 else 0#1 := by decide +kernel
/-- and which lanes are first. -/
theorem isFirst : ∀ d : Fin 128, IntOp.cmpi .slt (BitVec.ofNat 32 (d.val % 32)) 16#32 = if d.val % 32 < 16 then 1#1 else 0#1 := by decide +kernel

/-- A choice by a decided word. -/
theorem select_ite {α : Type} (p : Prop) [Decidable p] (a b : α) : Scalar.select (if p then 1#1 else 0#1) a b = if p then a else b := by
  unfold Scalar.select
  by_cases h : p <;> simp [h]

/-- The angle at a place and a lane. -/
theorem angles_at (s : Fin 4096) (d : Fin 128) : angles (ix2 s d) = angle s d := by
  pointwise [angles, rows, cols]
  rw [lane64_at, choice, select_ite, gathered_at]
  rfl

/-- The lanes of the first halves, -/
theorem firsts_at (s : Fin 4096) (d : Fin 128) : firsts (ix2 s d) = if d.val % 32 < 16 then 1#1 else 0#1 := by
  pointwise [firsts]
  rw [lane32_at, isFirst]

/-- and a zero. -/
theorem zeros_at (s : Fin 4096) (d : Fin 128) : zeros (ix2 s d) = 0 := by
  unfold zeros id
  pointwise

/-- The cosines' table, -/
theorem cos_at (s : Fin 4096) (d : Fin 128) : Host.cos angles (ix2 s d) = Ideal.cos (angle s d) := by
  rw [← angles_at]
  rfl

/-- the first masked table of sines, -/
theorem sa_at (s : Fin 4096) (d : Fin 128) : select firsts (Host.negf (Host.sin angles)) zeros (ix2 s d)
    = if d.val % 32 < 16 then -Ideal.sin (angle s d) else 0 := by
  rw [← angles_at, ← zeros_at s d, ← select_ite, ← firsts_at s d]
  rfl

/-- and the second. -/
theorem sb_at (s : Fin 4096) (d : Fin 128) : select firsts zeros (Host.sin angles) (ix2 s d)
    = if d.val % 32 < 16 then 0 else Ideal.sin (angle s d) := by
  rw [← angles_at, ← zeros_at s d, ← select_ite, ← firsts_at s d]
  rfl

end Cert.Proof.InprojTables
-- ==== Proof.InprojHost.lean ====
/-
  The input projection's windows at a point: the blocks its body reads, as places of the call's arguments and tables.
-/
module

public import proofs.«01_k».proof.Proof.InprojTables

@[expose] public section

set_option maxRecDepth 16384

noncomputable section

namespace Cert.Proof.InprojHost

open Cert.InprojIdeal Cert.InprojIdeal.Gen Cert.Proof.InprojSpec Cert.Proof.InprojTables
open Idealize.ShloMosaic Idealize.ShloMosaic.TcCoe Idealize.SL.Sem
open Idealize.ShloMosaic.Pipeline (Dat)

variable (m : (ℓ : Loc nD τ sig) → Buf (Elt Ideal) ℓ)

/-- Where each window's block lies, point by point. -/
theorem idx : ∀ t : Fin cfg0.N, win0_0.index t = ![(grid0.coords t 0).val, (grid0.coords t 1).val, 0]
    ∧ win0_1.index t = ![0, (grid0.coords t 0).val, 0, 1] ∧ win0_2.index t = ![0, (grid0.coords t 0).val, 0, 0]
    ∧ win0_3.index t = ![0, 0] ∧ win0_4.index t = ![0, 0] ∧ win0_5.index t = ![0, 0] ∧ win0_6.index t = ![0, 0]
    ∧ win0_7.index t = ![(grid0.coords t 1).val, 0] ∧ win0_8.index t = ![(grid0.coords t 1).val, 0] ∧ win0_9.index t = ![(grid0.coords t 1).val, 0]
    ∧ win0_10.index t = ![(grid0.coords t 0).val, (grid0.coords t 1).val, 0]
    ∧ win0_11.index t = ![(grid0.coords t 0).val, 0, (grid0.coords t 1).val, 0]
    ∧ win0_12.index t = ![(grid0.coords t 0).val, 0, (grid0.coords t 1).val, 0]
    ∧ win0_13.index t = ![(grid0.coords t 0).val, 0, (grid0.coords t 1).val, 0, 0]
    ∧ win0_14.index t = ![(grid0.coords t 0).val, (grid0.coords t 1).val, 0]
    ∧ win0_15.index t = ![(grid0.coords t 0).val, (grid0.coords t 1).val, 0] :=
  (by decide +kernel : ∀ t : Fin grid0.N, _)

/-- A point's batch, and the place of a row of its block. -/
abbrev batch (t : Fin cfg0.N) : Fin 16 := grid0.coords t 0
@[inherit_doc batch] abbrev tile (t : Fin cfg0.N) : Fin 8 := grid0.coords t 1
@[inherit_doc batch] abbrev place (t : Fin cfg0.N) (r : Fin 512) : Fin 4096 :=
  ⟨512 * (tile t).val + r, by have := (tile t).isLt; omega⟩

/-- The call's arguments: the rows, -/
abbrev input (c : Dev nD) : S16x4096x1024.Idx → EReal := m ((c : Thread nD τ).loc main_arg0)
/-- the modulation, -/
abbrev modulation (c : Dev nD) : S4x24x6144.Idx → EReal := m ((c : Thread nD τ).loc main_arg1)
/-- the gain, -/
abbrev gain (c : Dev nD) : S1024.Idx → EReal := m ((c : Thread nD τ).loc main_arg2)
/-- the weights -/
abbrev wIn (c : Dev nD) : S1024x7680.Idx → EReal := m ((c : Thread nD τ).loc main_arg3)
/-- and the gates' bias. -/
abbrev bias (c : Dev nD) : S3072.Idx → EReal := m ((c : Thread nD τ).loc main_arg4)

/-- The modulated row `s` of batch `b`, -/
def row (c : Dev nD) (b : Fin 16) (s : Fin 4096) : Fin 1024 → EReal :=
  FfnSpec.modulated (fun d => input m c (ix3 b s d)) (fun d => gain m c (ix1 d))
    (fun d => modulation m c (ix3 0 ⟨b, by omega⟩ ⟨1024 + d, by omega⟩)) (fun d => modulation m c (ix3 0 ⟨b, by omega⟩ ⟨d, by omega⟩))

/-- and the weights by row and column. -/
def weights (c : Dev nD) (d : Fin 1024) (j : Fin 7680) : EReal := wIn m c (ix2 d j)

/-- The arrays the host makes for the call: the columns but the values', side by side, -/
theorem rest_arr (c : Dev nD) : V m c main_v4 = (truncf .bf16 (concatenate S1024x6656 1
    [⟨S1024x3072, extractStridedSlice S1024x3072 ![0, 0] (m ((c : Thread nD τ).loc main_arg3) : FVec Ideal S1024x7680 .f32) slices_S1024x7680_S1024x3072_0_0⟩,
     ⟨S1024x3584, extractStridedSlice S1024x3584 ![0, 4096] (m ((c : Thread nD τ).loc main_arg3) : FVec Ideal S1024x7680 .f32) slices_S1024x7680_S1024x3584_0_4096⟩]
    concatenates_S1024x3072_S1024x3584_S1024x6656_d1) bitsLt_bf16_f32 : FVec Ideal S1024x6656 .bf16) := by
  rfl

/-- the values' columns, turned, -/
theorem turned_arr (c : Dev nD) : V m c main_v7 = (truncf .bf16 (transpose S1024x1024 [1, 0]
    (extractStridedSlice S1024x1024 ![0, 3072] (m ((c : Thread nD τ).loc main_arg3) : FVec Ideal S1024x7680 .f32) slices_S1024x7680_S1024x1024_0_3072)
    transposes_S1024x1024_S1024x1024_1_0) bitsLt_bf16_f32 : FVec Ideal S1024x1024 .bf16) := by
  rfl

/-- the modulation, the gain and the bias, reshaped. -/
theorem mod_arr (c : Dev nD) : V m c main_v0 = (shapeCast S4x24x1x6144 (m ((c : Thread nD τ).loc main_arg1)) shapeCasts_S4x24x6144_S4x24x1x6144 : FVec Ideal S4x24x1x6144 .f32) := by
  rfl
@[inherit_doc mod_arr]
theorem gain_arr (c : Dev nD) : V m c main_v8 = (shapeCast S1x1024 (m ((c : Thread nD τ).loc main_arg2)) shapeCasts_S1024_S1x1024 : FVec Ideal S1x1024 .f32) := by
  rfl
@[inherit_doc mod_arr]
theorem bias_arr (c : Dev nD) : V m c main_v9 = (shapeCast S1x3072 (m ((c : Thread nD τ).loc main_arg4)) shapeCasts_S3072_S1x3072 : FVec Ideal S1x3072 .f32) := by
  rfl
/-- The rows as they came. -/
theorem input_arr (c : Dev nD) : V m c main_arg0 = m ((c : Thread nD τ).loc main_arg0) := by
  rfl

/-- The column of `w_in` that column `j` of the weights without the values' is. -/
abbrev kept (j : Fin 6656) : Fin 7680 := if j.val < 3072 then ⟨j, by omega⟩ else ⟨1024 + j, by omega⟩

/-- The weights without the values' columns at a place, -/
theorem rest_at (w : FVec Ideal S1024x7680 .f32) (d : Fin 1024) (j : Fin 6656) :
    (truncf .bf16 (concatenate S1024x6656 1
      [⟨S1024x3072, extractStridedSlice S1024x3072 ![0, 0] w slices_S1024x7680_S1024x3072_0_0⟩,
       ⟨S1024x3584, extractStridedSlice S1024x3584 ![0, 4096] w slices_S1024x7680_S1024x3584_0_4096⟩]
      concatenates_S1024x3072_S1024x3584_S1024x6656_d1) bitsLt_bf16_f32 : FVec Ideal S1024x6656 .bf16) (ix2 d j) = w (ix2 d (kept j)) := by
  pointwise
  unfold kept
  split
  · rfl
  · exact congrArg (fun j => w (ix2 d j)) (Fin.ext (by show 4096 + (j.val - 3072) = 1024 + j.val; omega))

/-- and the values' columns, turned, at a place. -/
theorem turned_at (w : FVec Ideal S1024x7680 .f32) (j d : Fin 1024) :
    (truncf .bf16 (transpose S1024x1024 [1, 0]
      (extractStridedSlice S1024x1024 ![0, 3072] w slices_S1024x7680_S1024x1024_0_3072)
      transposes_S1024x1024_S1024x1024_1_0) bitsLt_bf16_f32 : FVec Ideal S1024x1024 .bf16) (ix2 j d) = w (ix2 d ⟨3072 + j, by omega⟩) := by
  pointwise

/-- The modulation, reshaped, at a place, -/
theorem mod_at (x : FVec Ideal S4x24x6144 .f32) (b : Fin 24) (j : Fin 6144) :
    shapeCast S4x24x1x6144 x shapeCasts_S4x24x6144_S4x24x1x6144 (ix4 0 b 0 j) = x (ix3 0 b j) := by
  pointwise

/-- the gain -/
theorem gain_at (x : FVec Ideal S1024 .f32) (d : Fin 1024) : shapeCast S1x1024 x shapeCasts_S1024_S1x1024 (ix2 0 d) = x (ix1 d) := by
  pointwise

/-- and the bias. -/
theorem bias_at (x : FVec Ideal S3072 .f32) (e : Fin 3072) : shapeCast S1x3072 x shapeCasts_S3072_S1x3072 (ix2 0 e) = x (ix1 e) := by
  pointwise

/-- The block of rows. -/
theorem input_blk (c : Dev nD) (t : Fin cfg0.N) (r : Fin 512) (d : Fin 1024) : iblk m c 0 t (ix3 0 r d) = input m c (ix3 (batch t) (place t r) d) := by
  refine Eq.trans ?_ (congrFun (input_arr m c) _)
  refine congrArg (V m c main_arg0) ?_
  blk_point [idx t] <;> simp only [batch, tile] <;> omega

/-- The block of scales, -/
theorem scale_blk (c : Dev nD) (t : Fin cfg0.N) (d : Fin 1024) :
    iblk m c 1 t (ix4 0 0 0 d) = modulation m c (ix3 0 ⟨batch t, by have := (batch t).isLt; omega⟩ ⟨1024 + d, by omega⟩) := by
  refine Eq.trans ?_ ((congrFun (mod_arr m c) _).trans (mod_at _ _ _))
  refine congrArg (V m c main_v0) ?_
  blk_point [idx t] <;> rfl

/-- of shifts, -/
theorem shift_blk (c : Dev nD) (t : Fin cfg0.N) (d : Fin 1024) :
    iblk m c 2 t (ix4 0 0 0 d) = modulation m c (ix3 0 ⟨batch t, by have := (batch t).isLt; omega⟩ ⟨d, by omega⟩) := by
  refine Eq.trans ?_ ((congrFun (mod_arr m c) _).trans (mod_at _ _ _))
  refine congrArg (V m c main_v0) ?_
  blk_point [idx t] <;> rfl

/-- and of the gain. -/
theorem gain_blk (c : Dev nD) (t : Fin cfg0.N) (d : Fin 1024) : iblk m c 3 t (ix2 0 d) = gain m c (ix1 d) := by
  refine Eq.trans ?_ ((congrFun (gain_arr m c) _).trans (gain_at _ _))
  refine congrArg (V m c main_v8) ?_
  blk_point [idx t]

/-- The block of the weights without the values' columns, -/
theorem rest_blk (c : Dev nD) (t : Fin cfg0.N) (d : Fin 1024) (j : Fin 6656) : iblk m c 4 t (ix2 d j) = weights m c d (kept j) := by
  refine Eq.trans ?_ ((congrFun (rest_arr m c) _).trans (rest_at _ _ _))
  refine congrArg (V m c main_v4) ?_
  blk_point [idx t]

/-- of the values' columns -/
theorem turned_blk (c : Dev nD) (t : Fin cfg0.N) (j d : Fin 1024) : iblk m c 5 t (ix2 j d) = weights m c d ⟨3072 + j, by omega⟩ := by
  refine Eq.trans ?_ ((congrFun (turned_arr m c) _).trans (turned_at _ _ _))
  refine congrArg (V m c main_v7) ?_
  blk_point [idx t]

/-- and of the bias. -/
theorem bias_blk (c : Dev nD) (t : Fin cfg0.N) (e : Fin 3072) : iblk m c 6 t (ix2 0 e) = bias m c (ix1 e) := by
  refine Eq.trans ?_ ((congrFun (bias_arr m c) _).trans (bias_at _ _))
  refine congrArg (V m c main_v9) ?_
  blk_point [idx t]

/-- The block of cosines, -/
theorem cos_blk (c : Dev nD) (t : Fin cfg0.N) (r : Fin 512) (d : Fin 128) : iblk m c 7 t (ix2 r d) = Ideal.cos (angle (place t r) d) := by
  rw [← cos_at]
  refine Eq.trans ?_ (congrFun (cos_arr m c) _)
  refine congrArg (V m c main_v53) ?_
  blk_point [idx t] <;> simp only [batch, tile] <;> omega

/-- of the first halves' sines -/
theorem sa_blk (c : Dev nD) (t : Fin cfg0.N) (r : Fin 512) (d : Fin 128) :
    iblk m c 8 t (ix2 r d) = if d.val % 32 < 16 then -Ideal.sin (angle (place t r) d) else 0 := by
  rw [← sa_at]
  refine Eq.trans ?_ (congrFun (sa_arr m c) _)
  refine congrArg (V m c main_v55) ?_
  blk_point [idx t] <;> simp only [batch, tile] <;> omega

/-- and of the second halves'. -/
theorem sb_blk (c : Dev nD) (t : Fin cfg0.N) (r : Fin 512) (d : Fin 128) :
    iblk m c 9 t (ix2 r d) = if d.val % 32 < 16 then 0 else Ideal.sin (angle (place t r) d) := by
  rw [← sb_at]
  refine Eq.trans ?_ (congrFun (sb_arr m c) _)
  refine congrArg (V m c main_v56) ?_
  blk_point [idx t] <;> simp only [batch, tile] <;> omega

end Cert.Proof.InprojHost
-- ==== Proof.InprojRef.lean ====
/-
  What the input projection's reference computes: row `s` of batch `b` of its six results, over that row of its argument.
-/
module

public import proofs.«01_k».proof.Proof.InprojSpec
public import proofs.«01_k».proof.Proof.Gen.InprojRefIdeal.Run
public import Idealize.ShloMosaic.Lib.Tactic.CleanTypes
public import Idealize.ShloMosaic.Lib.Pointwise

@[expose] public section

set_option maxRecDepth 16384

noncomputable section

namespace Cert.Proof.InprojRef

open Cert.InprojRefIdeal Cert.InprojRefIdeal.Gen Cert.Proof.InprojSpec
open Idealize.ShloMosaic Idealize.ShloMosaic.TcCoe Idealize.SL.Sem
open Cert.InprojRefIdeal.Value
open Idealize.ShloMosaic.StableHlo (launchContents)

section Rotation

variable (z : FVec Ideal S16x4096x8x2x64 .f32) (y : FVec Ideal S16x4096x8x2x32 .f32) (A B : FVec Ideal S1x4096x1x1x16 .f32)

/-- One axis's 32 lanes of each half head, rotated by the angles `A`. -/
def turn : FVec Ideal S16x4096x8x2x32 .f32 :=
  concatenate S16x4096x8x2x32 4
    [⟨S16x4096x8x2x16, (subf (mulf (extractStridedSlice S16x4096x8x2x16 ![0, 0, 0, 0, 0] y slices_S16x4096x8x2x32_S16x4096x8x2x16_0_0_0_0_0)
        (broadcastInDim S16x4096x8x2x16 ![0, 1, 2, 3, 4] bcast_S1x4096x1x1x16_S16x4096x8x2x16_0_1_2_3_4 (Host.cos A)))
      (mulf (extractStridedSlice S16x4096x8x2x16 ![0, 0, 0, 0, 16] y slices_S16x4096x8x2x32_S16x4096x8x2x16_0_0_0_0_16)
        (broadcastInDim S16x4096x8x2x16 ![0, 1, 2, 3, 4] bcast_S1x4096x1x1x16_S16x4096x8x2x16_0_1_2_3_4 (Host.sin A))))⟩,
     ⟨S16x4096x8x2x16, (addf (mulf (extractStridedSlice S16x4096x8x2x16 ![0, 0, 0, 0, 16] y slices_S16x4096x8x2x32_S16x4096x8x2x16_0_0_0_0_16)
        (broadcastInDim S16x4096x8x2x16 ![0, 1, 2, 3, 4] bcast_S1x4096x1x1x16_S16x4096x8x2x16_0_1_2_3_4 (Host.cos A)))
      (mulf (extractStridedSlice S16x4096x8x2x16 ![0, 0, 0, 0, 0] y slices_S16x4096x8x2x32_S16x4096x8x2x16_0_0_0_0_0)
        (broadcastInDim S16x4096x8x2x16 ![0, 1, 2, 3, 4] bcast_S1x4096x1x1x16_S16x4096x8x2x16_0_1_2_3_4 (Host.sin A))))⟩]
    concatenates_S16x4096x8x2x16_S16x4096x8x2x16_S16x4096x8x2x32_d4

/-- Both axes rotated, -/
def joined : FVec Ideal S16x4096x8x2x64 .f32 := concatenate S16x4096x8x2x64 4
    [⟨S16x4096x8x2x32, turn (extractStridedSlice S16x4096x8x2x32 ![0, 0, 0, 0, 0] z slices_S16x4096x8x2x64_S16x4096x8x2x32_0_0_0_0_0) A⟩,
     ⟨S16x4096x8x2x32, turn (extractStridedSlice S16x4096x8x2x32 ![0, 0, 0, 0, 32] z slices_S16x4096x8x2x64_S16x4096x8x2x32_0_0_0_0_32) B⟩]
    concatenates_S16x4096x8x2x32_S16x4096x8x2x32_S16x4096x8x2x64_d4

/-- and the heads' rows. -/
def heads (w : FVec Ideal S16x4096x8x2x64 .f32) : FVec Ideal S16x8x4096x128 .f32 :=
  transpose S16x8x4096x128 [0, 2, 1, 3] (shapeCast S16x4096x8x128 w shapeCasts_S16x4096x8x2x64_S16x4096x8x128)
    transposes_S16x4096x8x128_S16x8x4096x128_0_2_1_3

/-- One axis's rotation at a lane. -/
theorem turn_at (b : Fin 16) (s : Fin 4096) (n : Fin 8) (g : Fin 2) (l : Fin 32) :
    turn y A (ix5 b s n g l) = if h : l.val < 16 then
      y (ix5 b s n g l) * Ideal.cos (A (ix5 0 s 0 0 ⟨l.val, h⟩)) - y (ix5 b s n g ⟨l.val + 16, by omega⟩) * Ideal.sin (A (ix5 0 s 0 0 ⟨l.val, h⟩))
    else y (ix5 b s n g l) * Ideal.cos (A (ix5 0 s 0 0 ⟨l.val - 16, by omega⟩)) + y (ix5 b s n g ⟨l.val - 16, by omega⟩) * Ideal.sin (A (ix5 0 s 0 0 ⟨l.val - 16, by omega⟩)) := by
  pointwise [turn]
  by_cases h : l.val < 16
  · simp only [dif_pos h, Nat.add_comm 16]
  · have e : 16 + (l.val - 16) = l.val := by omega
    simp only [dif_neg h, e]

/-- The first axis's lanes, -/
theorem first_at (b : Fin 16) (s : Fin 4096) (n : Fin 8) (g : Fin 2) (l : Fin 32) :
    extractStridedSlice S16x4096x8x2x32 ![0, 0, 0, 0, 0] z slices_S16x4096x8x2x64_S16x4096x8x2x32_0_0_0_0_0 (ix5 b s n g l) = z (ix5 b s n g ⟨l.val, by omega⟩) := by
  pointwise

/-- and the second's. -/
theorem second_at (b : Fin 16) (s : Fin 4096) (n : Fin 8) (g : Fin 2) (l : Fin 32) :
    extractStridedSlice S16x4096x8x2x32 ![0, 0, 0, 0, 32] z slices_S16x4096x8x2x64_S16x4096x8x2x32_0_0_0_0_32 (ix5 b s n g l) = z (ix5 b s n g ⟨32 + l.val, by omega⟩) := by
  pointwise

/-- The two axes' lanes stand one after the other in a half head. -/
theorem joined_at (b : Fin 16) (s : Fin 4096) (n : Fin 8) (g : Fin 2) (l : Fin 64) :
    joined z A B (ix5 b s n g l) = if h : l.val < 32 then
      turn (extractStridedSlice S16x4096x8x2x32 ![0, 0, 0, 0, 0] z slices_S16x4096x8x2x64_S16x4096x8x2x32_0_0_0_0_0) A (ix5 b s n g ⟨l.val, h⟩)
    else turn (extractStridedSlice S16x4096x8x2x32 ![0, 0, 0, 0, 32] z slices_S16x4096x8x2x64_S16x4096x8x2x32_0_0_0_0_32) B (ix5 b s n g ⟨l.val - 32, by omega⟩) := by
  pointwise [joined]

/-- A head's lane `d` is lane `d % 64` of its half `d / 64`. -/
theorem heads_at (w : FVec Ideal S16x4096x8x2x64 .f32) (b : Fin 16) (s : Fin 4096) (n : Fin 8) (d : Fin 128) :
    heads w (ix4 b n s d) = w (ix5 b s n ⟨d.val / 64, by omega⟩ ⟨d.val % 64, by omega⟩) := by
  pointwise [heads]

/-- The angle of a lane, of the two axes' angles. -/
def pick (s : Fin 4096) (d : Fin 128) : EReal :=
  if d.val % 64 < 32 then A (ix5 0 s 0 0 ⟨d.val % 16, by omega⟩) else B (ix5 0 s 0 0 ⟨d.val % 16, by omega⟩)

/-- The heads' rows after both rotations: each 32 lanes pair lane `d` with lane `d + 16`. -/
theorem rotated_at (b : Fin 16) (s : Fin 4096) (n : Fin 8) (d : Fin 128) :
    heads (joined z A B) (ix4 b n s d) = rotate (fun d => z (ix5 b s n ⟨d.val / 64, by omega⟩ ⟨d.val % 64, by omega⟩))
      (fun d => Ideal.cos (pick A B s d)) (fun d => Ideal.sin (pick A B s d)) d := by
  rw [heads_at, joined_at]
  unfold rotate pick
  by_cases h : d.val % 64 < 32
  · rw [dif_pos h, turn_at]
    simp only [first_at, if_pos h]
    by_cases h' : d.val % 32 < 16
    · have e : d.val % 16 = d.val % 64 ∧ (d.val + 16) / 64 = d.val / 64 ∧ (d.val + 16) % 64 = d.val % 64 + 16 := by omega
      simp only [dif_pos h', dif_pos (show d.val % 64 < 16 by omega), e]
    · have e : d.val % 16 = d.val % 64 - 16 ∧ (d.val - 16) / 64 = d.val / 64 ∧ (d.val - 16) % 64 = d.val % 64 - 16 := by omega
      simp only [dif_neg h', dif_neg (show ¬ d.val % 64 < 16 by omega), e]
  · rw [dif_neg h, turn_at]
    simp only [second_at, if_neg h]
    by_cases h' : d.val % 32 < 16
    · have e : d.val % 16 = d.val % 64 - 32 ∧ (d.val + 16) / 64 = d.val / 64 ∧ (d.val + 16) % 64 = 32 + (d.val % 64 - 32 + 16)
        ∧ 32 + (d.val % 64 - 32) = d.val % 64 := by omega
      simp only [dif_pos h', dif_pos (show d.val % 64 - 32 < 16 by omega), e]
    · have e : d.val % 16 = d.val % 64 - 32 - 16 ∧ (d.val - 16) / 64 = d.val / 64 ∧ (d.val - 16) % 64 = 32 + (d.val % 64 - 32 - 16)
        ∧ 32 + (d.val % 64 - 32) = d.val % 64 := by omega
      simp only [dif_neg h', dif_neg (show ¬ d.val % 64 - 32 < 16 by omega), e]

end Rotation

section Products

variable (H : FVec Ideal S16x4096x1024 .f32)

/-- The product with a block of 1024 columns, -/
theorem product_at (w : FVec Ideal S1024x1024 .f32) (b : Fin 16) (s : Fin 4096) (j : Fin 1024) :
    Host.dotGeneral dot_S16x4096x1024_S1024x1024_S16x4096x1024_2_0_01_1_n_n none H w (ix3 b s j)
      = column (fun d => H (ix3 b s d)) (fun d j => w (ix2 d j)) j := by
  unfold column
  pointwise

/-- of 512, -/
theorem product512_at (w : FVec Ideal S1024x512 .f32) (b : Fin 16) (s : Fin 4096) (j : Fin 512) :
    Host.dotGeneral dot_S16x4096x1024_S1024x512_S16x4096x512_2_0_01_1_n_n none H w (ix3 b s j)
      = column (fun d => H (ix3 b s d)) (fun d j => w (ix2 d j)) j := by
  unfold column
  pointwise

/-- and of 3072. -/
theorem product3072_at (w : FVec Ideal S1024x3072 .f32) (b : Fin 16) (s : Fin 4096) (j : Fin 3072) :
    Host.dotGeneral dot_S16x4096x1024_S1024x3072_S16x4096x3072_2_0_01_1_n_n none H w (ix3 b s j)
      = column (fun d => H (ix3 b s d)) (fun d j => w (ix2 d j)) j := by
  unfold column
  pointwise

/-- A product's columns as heads, halves and lanes. -/
theorem grouped_at (b : Fin 16) (s : Fin 4096) (n : Fin 8) (g : Fin 2) (l : Fin 64) :
    shapeCast S16x4096x8x2x64 H shapeCasts_S16x4096x1024_S16x4096x8x2x64 (ix5 b s n g l) = H (ix3 b s ⟨128 * n + (64 * g + l), by omega⟩) := by
  pointwise
  congr 3
  omega

/-- The values: turned, by blocks of 512 rows, with a row of ones and rows of zeros under them. -/
def values (P : FVec Ideal S16x4096x1024 .f32) : FVec Ideal S16x8x8x144x512 .f32 :=
  concatenate S16x8x8x144x512 3
    [⟨S16x8x8x128x512, transpose S16x8x8x128x512 [0, 3, 1, 4, 2] (shapeCast S16x8x512x8x128 P shapeCasts_S16x4096x1024_S16x8x512x8x128) transposes_S16x8x512x8x128_S16x8x8x128x512_0_3_1_4_2⟩,
     ⟨S16x8x8x1x512, broadcastInDim S16x8x8x1x512 ![] bcast_S_S16x8x8x1x512 (constant S_ .f32 0x3F800000#32)⟩,
     ⟨S16x8x8x15x512, broadcastInDim S16x8x8x15x512 ![] bcast_S_S16x8x8x15x512 (constant S_ .f32 0x00000000#32)⟩]
    concatenates_S16x8x8x128x512_S16x8x8x1x512_S16x8x8x15x512_S16x8x8x144x512_d3

/-- A place among the values. -/
theorem values_at (b : Fin 16) (n i : Fin 8) (e : Fin 144) (r : Fin 512) :
    values H (ix5 b n i e r) = if h : e.val < 128 then H (ix3 b ⟨512 * i + r, by omega⟩ ⟨128 * n + e, by omega⟩) else if e.val = 128 then 1 else 0 := by
  pointwise [values]
  simp only [Nat.mul_comm 512, Nat.mul_comm 128]
  by_cases h : e.val < 128
  · rw [dif_pos h, dif_pos h]
  · rw [dif_neg h, dif_neg h]
    by_cases h' : e.val = 128
    · rw [dif_pos (by omega), if_pos h']
    · rw [dif_neg (by omega), if_neg h']

/-- A block of the weights' columns at an index. -/
theorem block_at {n : ℕ} (o : ℕ) (w : FVec Ideal S1024x7680 .f32) (h : S1024x7680.Slices ![0, o] ⟨2, ![1024, n]⟩) (d : Fin 1024) (j : Fin n)
    (ho : o + n ≤ 7680) : extractStridedSlice ⟨2, ![1024, n]⟩ ![0, o] w h (ix2 d j) = w (ix2 d ⟨o + j.val, by omega⟩) := by
  refine congrArg w (funext fun a => Fin.ext ?_)
  fin_cases a
  · exact Nat.zero_add _
  · rfl

/-- The scaled array, -/
theorem scaled_at (x : FVec Ideal S16x8x4096x128 .f32) (b : Fin 16) (n : Fin 8) (s : Fin 4096) (d : Fin 128) :
    truncf .bf16 (mulf x (broadcastInDim S16x8x4096x128 ![] bcast_S_S16x8x4096x128 (constant S_ .f32 0x3E38AA3B#32))) bitsLt_bf16_f32 (ix4 b n s d)
      = x (ix4 b n s d) * scale := by
  pointwise
  rfl

/-- the array under the narrower type, -/
theorem cast_at (x : FVec Ideal S16x8x4096x128 .f32) (i : S16x8x4096x128.Idx) : truncf .bf16 x bitsLt_bf16_f32 i = x i := rfl

/-- and the array's logistic. -/
theorem gate_at (x : FVec Ideal S16x4096x3072 .f32) (g : FVec Ideal S3072 .f32) (b : Fin 16) (s : Fin 4096) (e : Fin 3072) :
    truncf .bf16 (Host.divf (broadcastInDim S16x4096x3072 ![] bcast_S_S16x4096x3072 (constant S_ .f32 0x3F800000#32))
      (addf (broadcastInDim S16x4096x3072 ![] bcast_S_S16x4096x3072 (constant S_ .f32 0x3F800000#32)) (Host.exp (Host.negf (addf x
        (broadcastInDim S16x4096x3072 ![0, 1, 2] bcast_S1x1x3072_S16x4096x3072_0_1_2 (broadcastInDim S1x1x3072 ![2] bcast_S3072_S1x1x3072_2 g))))))) bitsLt_bf16_f32 (ix3 b s e)
      = Ideal.logistic (x (ix3 b s e) + g (ix1 e)) := by
  pointwise
  rfl

end Products

section Values

variable (m : (ℓ : Loc nD τ sig) → Buf (Elt Ideal) ℓ) (c : Dev nD)

/-- Row `s` of batch `b` after the norm and the modulation, -/
def row (b : Fin 16) (s : Fin 4096) : Fin 1024 → EReal :=
  FfnSpec.modulated (fun d => m (c.tc.loc main_arg0) (ix3 b s d)) (fun d => m (c.tc.loc main_arg2) (ix1 d))
    (fun d => m (c.tc.loc main_arg1) (ix3 0 ⟨b, by omega⟩ ⟨1024 + d, by omega⟩)) (fun d => m (c.tc.loc main_arg1) (ix3 0 ⟨b, by omega⟩ ⟨d, by omega⟩))

/-- and the weights. -/
def weights (d : Fin 1024) (j : Fin 7680) : EReal := m (c.tc.loc main_arg3) (ix2 d j)

/-- The modulated row. -/
theorem row_at (b : Fin 16) (s : Fin 4096) (d : Fin 1024) : res_main_v23 (launchContents m c) (ix3 b s d) = row m c b s d := by
  unfold res_main_v23 res_main_v2 row
  clean_types
  pointwise
  rfl

/-- The row's angles, -/
theorem row_angle (s : Fin 4096) (l : Fin 16) : res_main_v48 (launchContents m c) (ix5 0 s 0 0 l) = FloatOps.sitofp (F := Ideal) .f32 (BitVec.ofNat 32 (s.val / 64)) * freq l := by
  unfold res_main_v48 res_main_v33
  pointwise
  rfl

/-- and the column's. -/
theorem col_angle (s : Fin 4096) (l : Fin 16) : res_main_v54 (launchContents m c) (ix5 0 s 0 0 l) = FloatOps.sitofp (F := Ideal) .f32 (BitVec.ofNat 32 (s.val % 64)) * freq l := by
  unfold res_main_v54 res_main_v33
  pointwise
  rfl

/-- The arrays the results are made of, with their types: the modulated rows, the weights and the gates' bias. -/
def hidden : FVec Ideal S16x4096x1024 .f32 := res_main_v23 (launchContents m c)
@[inherit_doc hidden] def wIn : FVec Ideal S1024x7680 .f32 := m (c.tc.loc main_arg3)
@[inherit_doc hidden] def bias : FVec Ideal S3072 .f32 := m (c.tc.loc main_arg4)

/-- The product with 1024 of the columns, from `o` on. -/
def product (o : ℕ) (h : S1024x7680.Slices ![0, o] S1024x1024) : FVec Ideal S16x4096x1024 .f32 :=
  Host.dotGeneral dot_S16x4096x1024_S1024x1024_S16x4096x1024_2_0_01_1_n_n none (hidden m c) (extractStridedSlice S1024x1024 ![0, o] (wIn m c) h)

/-- A place of that product is the row's column. -/
theorem product_row (o : ℕ) (h : S1024x7680.Slices ![0, o] S1024x1024) (ho : o + 1024 ≤ 7680) (b : Fin 16) (s : Fin 4096) (j : Fin 1024) :
    product m c o h (ix3 b s j) = column (row m c b s) (weights m c) ⟨o + j.val, by omega⟩ := by
  unfold product
  rw [product_at]
  exact Finset.sum_congr rfl fun d _ => congrArg₂ (· * ·) (row_at m c b s d) (block_at o _ h d j ho)

/-- The angles picked for a lane are its angle. -/
theorem pick_angle (s : Fin 4096) (d : Fin 128) : pick (res_main_v48 (launchContents m c)) (res_main_v54 (launchContents m c)) s d = angle s d := by
  unfold pick angle coordinate
  rw [row_angle, col_angle, ite_mul]

/-- A product's heads, rotated. -/
theorem heads_row (o : ℕ) (h : S1024x7680.Slices ![0, o] S1024x1024) (ho : o + 1024 ≤ 7680) (b : Fin 16) (n : Fin 8) (s : Fin 4096) (d : Fin 128) :
    heads (joined (shapeCast S16x4096x8x2x64 (product m c o h) shapeCasts_S16x4096x1024_S16x4096x8x2x64) (res_main_v48 (launchContents m c)) (res_main_v54 (launchContents m c))) (ix4 b n s d)
      = rotate (fun d => column (row m c b s) (weights m c) ⟨o + (128 * n + d), by omega⟩) (fun d => Ideal.cos (angle s d)) (fun d => Ideal.sin (angle s d)) d := by
  rw [rotated_at]
  simp only [pick_angle, grouped_at, product_row m c o h ho, Nat.div_add_mod]

/-- The six results, as the run leaves them: the gated half of the first product, -/
def uResult : FVec Ideal S16x4096x512 .f32 :=
  mulf (extractStridedSlice S16x4096x512 ![0, 0, 0] (res_main_v56 (launchContents m c)) slices_S16x4096x1024_S16x4096x512_0_0_0)
    (Host.divf (broadcastInDim S16x4096x512 ![] bcast_S_S16x4096x512 (constant S_ .f32 0x3F800000#32))
      (addf (broadcastInDim S16x4096x512 ![] bcast_S_S16x4096x512 (constant S_ .f32 0x3F800000#32))
        (Host.exp (Host.negf (extractStridedSlice S16x4096x512 ![0, 0, 512] (res_main_v56 (launchContents m c)) slices_S16x4096x1024_S16x4096x512_0_0_512)))))

/-- the scaled queries, -/
def qResult : FVec Ideal S16x8x4096x128 .bf16 :=
  truncf .bf16 (mulf (heads (joined (res_main_v68 (launchContents m c)) (res_main_v48 (launchContents m c)) (res_main_v54 (launchContents m c))))
    (broadcastInDim S16x8x4096x128 ![] bcast_S_S16x8x4096x128 (constant S_ .f32 0x3E38AA3B#32))) bitsLt_bf16_f32

/-- the keys, -/
def kResult : FVec Ideal S16x8x4096x128 .bf16 :=
  truncf .bf16 (heads (joined (res_main_v112 (launchContents m c)) (res_main_v48 (launchContents m c)) (res_main_v54 (launchContents m c)))) bitsLt_bf16_f32

/-- the values, -/
def vResult : FVec Ideal S16x8x8x144x512 .bf16 :=
  truncf .bf16 (values (product m c 3072 slices_S1024x7680_S1024x1024_0_3072)) bitsLt_bf16_f32

/-- the pooled branch's input, -/
def pResult : FVec Ideal S16x4096x512 .f32 :=
  Host.dotGeneral dot_S16x4096x1024_S1024x512_S16x4096x512_2_0_01_1_n_n none (hidden m c) (extractStridedSlice S1024x512 ![0, 4096] (wIn m c) slices_S1024x7680_S1024x512_0_4096)

/-- and the gates. -/
def gResult : FVec Ideal S16x4096x3072 .bf16 :=
  truncf .bf16 (Host.divf (broadcastInDim S16x4096x3072 ![] bcast_S_S16x4096x3072 (constant S_ .f32 0x3F800000#32))
    (addf (broadcastInDim S16x4096x3072 ![] bcast_S_S16x4096x3072 (constant S_ .f32 0x3F800000#32)) (Host.exp (Host.negf (addf
      (Host.dotGeneral dot_S16x4096x1024_S1024x3072_S16x4096x3072_2_0_01_1_n_n none (hidden m c) (extractStridedSlice S1024x3072 ![0, 4608] (wIn m c) slices_S1024x7680_S1024x3072_0_4608) : FVec Ideal S16x4096x3072 .f32)
      (broadcastInDim S16x4096x3072 ![0, 1, 2] bcast_S1x1x3072_S16x4096x3072_0_1_2 (broadcastInDim S1x1x3072 ![2] bcast_S3072_S1x1x3072_2 (bias m c)))))))) bitsLt_bf16_f32

/-- The first result: the first product's gated half. -/
theorem u_at (b : Fin 16) (s : Fin 4096) (e : Fin 512) : uResult m c (ix3 b s e)
    = column (row m c b s) (weights m c) ⟨e, by omega⟩ * Ideal.logistic (column (row m c b s) (weights m c) ⟨512 + e, by omega⟩) := by
  unfold uResult res_main_v56
  clean_types
  pointwise
  simp only [row_at]
  rfl

/-- The queries. -/
theorem q_at (b : Fin 16) (n : Fin 8) (s : Fin 4096) (d : Fin 128) : qResult m c (ix4 b n s d)
    = rotate (fun d => column (row m c b s) (weights m c) ⟨1024 + (128 * n + d), by omega⟩) (fun d => Ideal.cos (angle s d)) (fun d => Ideal.sin (angle s d)) d * scale := by
  unfold qResult
  rw [scaled_at]
  exact congrArg (· * scale) (heads_row m c 1024 slices_S1024x7680_S1024x1024_0_1024 (by omega) b n s d)

/-- The keys. -/
theorem k_at (b : Fin 16) (n : Fin 8) (s : Fin 4096) (d : Fin 128) : kResult m c (ix4 b n s d)
    = rotate (fun d => column (row m c b s) (weights m c) ⟨2048 + (128 * n + d), by omega⟩) (fun d => Ideal.cos (angle s d)) (fun d => Ideal.sin (angle s d)) d := by
  unfold kResult
  rw [cast_at]
  exact heads_row m c 2048 slices_S1024x7680_S1024x1024_0_2048 (by omega) b n s d

/-- The values. -/
theorem v_at (b : Fin 16) (n i : Fin 8) (e : Fin 144) (r : Fin 512) : vResult m c (ix5 b n i e r)
    = if h : e.val < 128 then column (row m c b ⟨512 * i + r, by omega⟩) (weights m c) ⟨3072 + (128 * n + e), by omega⟩ else if e.val = 128 then 1 else 0 := by
  refine (values_at (product m c 3072 slices_S1024x7680_S1024x1024_0_3072) b n i e r).trans ?_
  simp only [product_row m c 3072 slices_S1024x7680_S1024x1024_0_3072 (by omega)]

/-- The pooled branch's input. -/
theorem p_at (b : Fin 16) (s : Fin 4096) (e : Fin 512) : pResult m c (ix3 b s e) = column (row m c b s) (weights m c) ⟨4096 + e, by omega⟩ := by
  unfold pResult
  rw [product512_at]
  exact Finset.sum_congr rfl fun d _ => congrArg₂ (· * ·) (row_at m c b s d) (block_at 4096 _ slices_S1024x7680_S1024x512_0_4096 d e (by omega))

/-- The gates. -/
theorem g_at (b : Fin 16) (s : Fin 4096) (e : Fin 3072) : gResult m c (ix3 b s e)
    = Ideal.logistic (column (row m c b s) (weights m c) ⟨4608 + e, by omega⟩ + m (c.tc.loc main_arg4) (ix1 e)) := by
  unfold gResult
  rw [gate_at, product3072_at]
  refine congrArg Ideal.logistic (congrArg (· + m (c.tc.loc main_arg4) (ix1 e)) ?_)
  exact Finset.sum_congr rfl fun d _ => congrArg₂ (· * ·) (row_at m c b s d) (block_at 4608 _ slices_S1024x7680_S1024x3072_0_4608 d e (by omega))

end Values

end Cert.Proof.InprojRef
-- ==== Proof.InprojValue.lean ====
/-
  The input projection's six result arrays: each place is the projection of its row of the argument, so the arrays are
  the reference's.
-/
module

public import proofs.«01_k».proof.Proof.InprojHost
public import proofs.«01_k».proof.Proof.InprojRef

@[expose] public section

set_option maxRecDepth 16384

noncomputable section

namespace Cert.Proof.InprojValue

open Cert.InprojIdeal Cert.InprojIdeal.Gen Cert.Proof.InprojSpec Cert.Proof.InprojHost
open Idealize.ShloMosaic Idealize.ShloMosaic.TcCoe Idealize.SL.Sem
open Idealize.ShloMosaic.Pipeline (Dat)

variable (m : (ℓ : Loc nD τ sig) → Buf (Elt Ideal) ℓ)

/-- Column `j` of row `s` of batch `b`'s projection. -/
def projected (c : Dev nD) (b : Fin 16) (s : Fin 4096) (j : Fin 7680) : EReal := column (row m c b s) (weights m c) j

/-- Lane `d` of head `n` of a projected row, from column `o` on, turned by its place's angles. -/
def lane (c : Dev nD) (o : ℕ) (ho : o + 1024 ≤ 7680) (b : Fin 16) (n : Fin 8) (s : Fin 4096) (d : Fin 128) : EReal :=
  rotate (fun d => projected m c b s ⟨o + (128 * n + d), by omega⟩) (fun d => Ideal.cos (angle s d)) (fun d => Ideal.sin (angle s d)) d

/-- The six results at a place: the gated channels, -/
def uAt (c : Dev nD) (b : Fin 16) (s : Fin 4096) (e : Fin 512) : EReal :=
  projected m c b s ⟨e, by omega⟩ * Ideal.logistic (projected m c b s ⟨512 + e, by omega⟩)
/-- the scaled queries, -/
def qAt (c : Dev nD) (b : Fin 16) (n : Fin 8) (s : Fin 4096) (d : Fin 128) : EReal := lane m c 1024 (by omega) b n s d * scale
/-- the keys, -/
def kAt (c : Dev nD) (b : Fin 16) (n : Fin 8) (s : Fin 4096) (d : Fin 128) : EReal := lane m c 2048 (by omega) b n s d
/-- the values over their row of ones, -/
def vAt (c : Dev nD) (b : Fin 16) (n : Fin 8) (i : Fin 8) (e : Fin 144) (r : Fin 512) : EReal :=
  if h : e.val < 128 then projected m c b ⟨512 * i + r, by omega⟩ ⟨3072 + (128 * n + e), by omega⟩ else if e.val = 128 then 1 else 0
/-- the pooled branch's input -/
def pAt (c : Dev nD) (b : Fin 16) (s : Fin 4096) (e : Fin 512) : EReal := projected m c b s ⟨4096 + e, by omega⟩
/-- and the gates. -/
def gAt (c : Dev nD) (b : Fin 16) (s : Fin 4096) (e : Fin 3072) : EReal :=
  Ideal.logistic (projected m c b s ⟨4608 + e, by omega⟩ + bias m c (ix1 e))

/-- The six result arrays. -/
def u (c : Dev nD) : FVec Ideal S16x4096x512 .f32 := fun i => uAt m c (i 0) (i 1) (i 2)
@[inherit_doc u] def q (c : Dev nD) : FVec Ideal S16x8x4096x128 .bf16 := fun i => qAt m c (i 0) (i 1) (i 2) (i 3)
@[inherit_doc u] def k (c : Dev nD) : FVec Ideal S16x8x4096x128 .bf16 := fun i => kAt m c (i 0) (i 1) (i 2) (i 3)
@[inherit_doc u] def v (c : Dev nD) : FVec Ideal S16x8x8x144x512 .bf16 := fun i => vAt m c (i 0) (i 1) (i 2) (i 3) (i 4)
@[inherit_doc u] def p (c : Dev nD) : FVec Ideal S16x4096x512 .f32 := fun i => pAt m c (i 0) (i 1) (i 2)
@[inherit_doc u] def g (c : Dev nD) : FVec Ideal S16x4096x3072 .bf16 := fun i => gAt m c (i 0) (i 1) (i 2)

/-- A row of a point's block, modulated, is its place's. -/
theorem row_blk (c : Dev nD) (t : Fin cfg0.N) (r : Fin 512) : InprojBlock.row m c t r = row m c (batch t) (place t r) := by
  unfold InprojBlock.row InprojBlock.normed row
  simp only [input_blk, scale_blk, shift_blk, gain_blk]

/-- A column of the kept weights' product is the argument's. -/
theorem column_blk (c : Dev nD) (t : Fin cfg0.N) (r : Fin 512) (j : Fin 6656) :
    column (InprojBlock.row m c t r) (fun d j => iblk m c 4 t (ix2 d j)) j = projected m c (batch t) (place t r) (kept j) := by
  rw [row_blk]
  exact Finset.sum_congr rfl fun d _ => congrArg (_ * ·) (rest_blk m c t d j)

/-- A column of the values' product is the argument's. -/
theorem values_blk (c : Dev nD) (t : Fin cfg0.N) (r : Fin 512) (j : Fin 1024) :
    column (InprojBlock.row m c t r) (fun d j => iblk m c 5 t (ix2 j d)) j = projected m c (batch t) (place t r) ⟨3072 + j, by omega⟩ := by
  rw [row_blk]
  exact Finset.sum_congr rfl fun d _ => congrArg (_ * ·) (turned_blk m c t j d)

/-- Which column a kept column is, before the values' -/
theorem kept_lo (j : Fin 6656) (h : j.val < 3072) : kept j = ⟨j, by omega⟩ := if_pos h
/-- and after them. -/
theorem kept_hi (j : Fin 6656) (h : ¬ j.val < 3072) : kept j = ⟨1024 + j, by omega⟩ := if_neg h

/-- The turned lanes of a point's block are the rotated lanes of its place. -/
theorem lane_blk (c : Dev nD) (t : Fin cfg0.N) (o : ℕ) (ho : o + 1024 ≤ 3072) (n : Fin 8) (r : Fin 512) (d : Fin 128) :
    turned (fun d => column (InprojBlock.row m c t r) (fun d j => iblk m c 4 t (ix2 d j)) ⟨o + (128 * n + d), by omega⟩)
      (fun d => iblk m c 7 t (ix2 r d)) (fun d => iblk m c 8 t (ix2 r d)) (fun d => iblk m c 9 t (ix2 r d)) d
      = lane m c o (by omega) (batch t) n (place t r) d := by
  rw [turned_eq _ _ (fun d => Ideal.sin (angle (place t r) d))]
  · unfold lane
    simp only [column_blk, cos_blk]
    congr 1
    funext d
    rw [kept_lo _ (by show o + (128 * n.val + d.val) < 3072; omega)]
  · exact sa_blk m c t r d
  · exact sb_blk m c t r d

/-- What a point writes at a place of its blocks is the result there: the gated channels, -/
theorem u_point (c : Dev nD) (t : Fin cfg0.N) (r : Fin 512) (e : Fin 512) :
    (outsAt0 m c t).1 (ix3 0 r e) = uAt m c (batch t) (place t r) e := by
  rw [InprojBlock.u_at, column_blk, column_blk, kept_lo _ (by show e.val < 3072; omega), kept_lo _ (by show 512 + e.val < 3072; omega)]
  rfl
/-- the queries, -/
theorem q_point (c : Dev nD) (t : Fin cfg0.N) (n : Fin 8) (r : Fin 512) (d : Fin 128) :
    (outsAt0 m c t).2.1 (ix4 0 n r d) = qAt m c (batch t) n (place t r) d := by
  rw [InprojBlock.q_at, lane_blk m c t 1024 (by omega)]
  rfl
/-- the keys, -/
theorem k_point (c : Dev nD) (t : Fin cfg0.N) (n : Fin 8) (r : Fin 512) (d : Fin 128) :
    (outsAt0 m c t).2.2.1 (ix4 0 n r d) = kAt m c (batch t) n (place t r) d := by
  rw [InprojBlock.k_at, lane_blk m c t 2048 (by omega)]
  rfl
/-- the values, -/
theorem v_point (c : Dev nD) (t : Fin cfg0.N) (n : Fin 8) (e : Fin 144) (r : Fin 512) :
    (outsAt0 m c t).2.2.2.1 (ix5 0 n 0 e r) = vAt m c (batch t) n (tile t) e r := by
  rw [InprojBlock.v_at]
  simp only [values_blk]
  rfl
/-- the pooled branch's input -/
theorem p_point (c : Dev nD) (t : Fin cfg0.N) (r : Fin 512) (e : Fin 512) :
    (outsAt0 m c t).2.2.2.2.1 (ix3 0 r e) = pAt m c (batch t) (place t r) e := by
  rw [InprojBlock.p_at, column_blk, kept_hi _ (by show ¬ 3072 + e.val < 3072; omega)]
  exact congrArg (projected m c (batch t) (place t r)) (Fin.ext (by show 1024 + (3072 + e.val) = 4096 + e.val; omega))
/-- and the gates. -/
theorem g_point (c : Dev nD) (t : Fin cfg0.N) (r : Fin 512) (e : Fin 3072) :
    (outsAt0 m c t).2.2.2.2.2 (ix3 0 r e) = gAt m c (batch t) (place t r) e := by
  rw [InprojBlock.g_at, column_blk, bias_blk, kept_hi _ (by show ¬ 3584 + e.val < 3072; omega)]
  exact congrArg (fun j => Ideal.logistic (projected m c (batch t) (place t r) j + bias m c (ix1 e)))
    (Fin.ext (by show 1024 + (3584 + e.val) = 4608 + e.val; omega))

/-- Where a place of a result's block lies in its array: of the gated channels, -/
theorem u_place (t : Fin cfg0.N) (r : Fin 512) (e : Fin 512) : ((cfg0.win 10).blk t).view.emb (ix3 0 r e) = ix3 (batch t) (place t r) e := by
  blk_point [idx t] <;> simp only [batch, tile] <;> omega
/-- of the queries, -/
theorem q_place (t : Fin cfg0.N) (n : Fin 8) (r : Fin 512) (d : Fin 128) : ((cfg0.win 11).blk t).view.emb (ix4 0 n r d) = ix4 (batch t) n (place t r) d := by
  blk_point [idx t] <;> simp only [batch, tile] <;> omega
/-- of the keys, -/
theorem k_place (t : Fin cfg0.N) (n : Fin 8) (r : Fin 512) (d : Fin 128) : ((cfg0.win 12).blk t).view.emb (ix4 0 n r d) = ix4 (batch t) n (place t r) d := by
  blk_point [idx t] <;> simp only [batch, tile] <;> omega
/-- of the values, -/
theorem v_place (t : Fin cfg0.N) (n : Fin 8) (e : Fin 144) (r : Fin 512) : ((cfg0.win 13).blk t).view.emb (ix5 0 n 0 e r) = ix5 (batch t) n (tile t) e r := by
  blk_point [idx t] <;> simp only [batch, tile] <;> omega
/-- of the pooled branch's input -/
theorem p_place (t : Fin cfg0.N) (r : Fin 512) (e : Fin 512) : ((cfg0.win 14).blk t).view.emb (ix3 0 r e) = ix3 (batch t) (place t r) e := by
  blk_point [idx t] <;> simp only [batch, tile] <;> omega
/-- and of the gates. -/
theorem g_place (t : Fin cfg0.N) (r : Fin 512) (e : Fin 3072) : ((cfg0.win 15).blk t).view.emb (ix3 0 r e) = ix3 (batch t) (place t r) e := by
  blk_point [idx t] <;> simp only [batch, tile] <;> omega

/-- The result arrays after the run: the gated channels, -/
theorem u_final (c : Dev nD) : (dats m 0 c).arrAt 10 (cfgs 0).N = u m c := by
  refine (dats m 0 c).arrAt_eq_of_covers 10 _ (by decide +kernel) fun t _ y => ?_
  blk_simp
  rw [after0_10]
  obtain ⟨a, r, e, rfl⟩ : ∃ (a : Fin 1) (r : Fin 512) (e : Fin 512), y = ix3 a r e := ⟨y 0, y 1, y 2, eq_ix3 y⟩
  obtain rfl : a = 0 := Subsingleton.elim _ _
  exact (u_point m c t r e).trans (congrArg (u m c) (u_place t r e)).symm
/-- the queries, -/
theorem q_final (c : Dev nD) : (dats m 0 c).arrAt 11 (cfgs 0).N = q m c := by
  refine (dats m 0 c).arrAt_eq_of_covers 11 _ (by decide +kernel) fun t _ y => ?_
  blk_simp
  rw [after0_11]
  obtain ⟨a, n, r, d, rfl⟩ : ∃ (a : Fin 1) (n : Fin 8) (r : Fin 512) (d : Fin 128), y = ix4 a n r d := ⟨y 0, y 1, y 2, y 3, eq_ix4 y⟩
  obtain rfl : a = 0 := Subsingleton.elim _ _
  exact (q_point m c t n r d).trans (congrArg (q m c) (q_place t n r d)).symm
/-- the keys, -/
theorem k_final (c : Dev nD) : (dats m 0 c).arrAt 12 (cfgs 0).N = k m c := by
  refine (dats m 0 c).arrAt_eq_of_covers 12 _ (by decide +kernel) fun t _ y => ?_
  blk_simp
  rw [after0_12]
  obtain ⟨a, n, r, d, rfl⟩ : ∃ (a : Fin 1) (n : Fin 8) (r : Fin 512) (d : Fin 128), y = ix4 a n r d := ⟨y 0, y 1, y 2, y 3, eq_ix4 y⟩
  obtain rfl : a = 0 := Subsingleton.elim _ _
  exact (k_point m c t n r d).trans (congrArg (k m c) (k_place t n r d)).symm
/-- the values, -/
theorem v_final (c : Dev nD) : (dats m 0 c).arrAt 13 (cfgs 0).N = v m c := by
  refine (dats m 0 c).arrAt_eq_of_covers 13 _ (by decide +kernel) fun t _ y => ?_
  blk_simp
  rw [after0_13]
  obtain ⟨a, n, i, e, r, rfl⟩ : ∃ (a : Fin 1) (n : Fin 8) (i : Fin 1) (e : Fin 144) (r : Fin 512), y = ix5 a n i e r :=
    ⟨y 0, y 1, y 2, y 3, y 4, eq_ix5 y⟩
  obtain rfl : a = 0 := Subsingleton.elim _ _
  obtain rfl : i = 0 := Subsingleton.elim _ _
  exact (v_point m c t n e r).trans (congrArg (v m c) (v_place t n e r)).symm
/-- the pooled branch's input -/
theorem p_final (c : Dev nD) : (dats m 0 c).arrAt 14 (cfgs 0).N = p m c := by
  refine (dats m 0 c).arrAt_eq_of_covers 14 _ (by decide +kernel) fun t _ y => ?_
  blk_simp
  rw [after0_14]
  obtain ⟨a, r, e, rfl⟩ : ∃ (a : Fin 1) (r : Fin 512) (e : Fin 512), y = ix3 a r e := ⟨y 0, y 1, y 2, eq_ix3 y⟩
  obtain rfl : a = 0 := Subsingleton.elim _ _
  exact (p_point m c t r e).trans (congrArg (p m c) (p_place t r e)).symm
/-- and the gates. -/
theorem g_final (c : Dev nD) : (dats m 0 c).arrAt 15 (cfgs 0).N = g m c := by
  refine (dats m 0 c).arrAt_eq_of_covers 15 _ (by decide +kernel) fun t _ y => ?_
  blk_simp
  rw [after0_15]
  obtain ⟨a, r, e, rfl⟩ : ∃ (a : Fin 1) (r : Fin 512) (e : Fin 3072), y = ix3 a r e := ⟨y 0, y 1, y 2, eq_ix3 y⟩
  obtain rfl : a = 0 := Subsingleton.elim _ _
  exact (g_point m c t r e).trans (congrArg (g m c) (g_place t r e)).symm

section Reference

variable (c : Dev nD) (m' : (ℓ : Loc Cert.InprojRefIdeal.nD Cert.InprojRefIdeal.τ Cert.InprojRefIdeal.sig) → Buf (Elt Ideal) ℓ)
  (h0 : m' ((c.tc : Thread Cert.InprojRefIdeal.nD Cert.InprojRefIdeal.τ).loc Cert.InprojRefIdeal.main_arg0) = m ((c.tc : Thread nD τ).loc main_arg0))
  (h1 : m' ((c.tc : Thread Cert.InprojRefIdeal.nD Cert.InprojRefIdeal.τ).loc Cert.InprojRefIdeal.main_arg1) = m ((c.tc : Thread nD τ).loc main_arg1))
  (h2 : m' ((c.tc : Thread Cert.InprojRefIdeal.nD Cert.InprojRefIdeal.τ).loc Cert.InprojRefIdeal.main_arg2) = m ((c.tc : Thread nD τ).loc main_arg2))
  (h3 : m' ((c.tc : Thread Cert.InprojRefIdeal.nD Cert.InprojRefIdeal.τ).loc Cert.InprojRefIdeal.main_arg3) = m ((c.tc : Thread nD τ).loc main_arg3))
  (h4 : m' ((c.tc : Thread Cert.InprojRefIdeal.nD Cert.InprojRefIdeal.τ).loc Cert.InprojRefIdeal.main_arg4) = m ((c.tc : Thread nD τ).loc main_arg4))

include h0 h1 h2 h3 in
/-- From equal arguments, the reference's columns are the call's. -/
theorem column_eq (b : Fin 16) (s : Fin 4096) (j : Fin 7680) :
    column (InprojRef.row m' c b s) (InprojRef.weights m' c) j = projected m c b s j := by
  unfold InprojRef.row InprojRef.weights
  rw [h0, h1, h2, h3]
  rfl

include h0 h1 h2 h3

/-- The reference's results are the call's: the gated channels, -/
theorem u_eq : InprojRef.uResult m' c = u m c := by
  funext i
  obtain ⟨b, s, e, rfl⟩ : ∃ (b : Fin 16) (s : Fin 4096) (e : Fin 512), i = ix3 b s e := ⟨i 0, i 1, i 2, eq_ix3 i⟩
  refine (InprojRef.u_at m' c b s e).trans ?_
  rw [column_eq m c m' h0 h1 h2 h3, column_eq m c m' h0 h1 h2 h3]
  rfl
/-- the queries, -/
theorem q_eq : InprojRef.qResult m' c = q m c := by
  funext i
  obtain ⟨b, n, s, d, rfl⟩ : ∃ (b : Fin 16) (n : Fin 8) (s : Fin 4096) (d : Fin 128), i = ix4 b n s d := ⟨i 0, i 1, i 2, i 3, eq_ix4 i⟩
  refine (InprojRef.q_at m' c b n s d).trans ?_
  simp only [column_eq m c m' h0 h1 h2 h3]
  rfl
/-- the keys, -/
theorem k_eq : InprojRef.kResult m' c = k m c := by
  funext i
  obtain ⟨b, n, s, d, rfl⟩ : ∃ (b : Fin 16) (n : Fin 8) (s : Fin 4096) (d : Fin 128), i = ix4 b n s d := ⟨i 0, i 1, i 2, i 3, eq_ix4 i⟩
  refine (InprojRef.k_at m' c b n s d).trans ?_
  simp only [column_eq m c m' h0 h1 h2 h3]
  rfl
/-- the values, -/
theorem v_eq : InprojRef.vResult m' c = v m c := by
  funext i
  obtain ⟨b, n, i', e, r, rfl⟩ : ∃ (b : Fin 16) (n : Fin 8) (i' : Fin 8) (e : Fin 144) (r : Fin 512), i = ix5 b n i' e r :=
    ⟨i 0, i 1, i 2, i 3, i 4, eq_ix5 i⟩
  refine (InprojRef.v_at m' c b n i' e r).trans ?_
  simp only [column_eq m c m' h0 h1 h2 h3]
  rfl
/-- the pooled branch's input -/
theorem p_eq : InprojRef.pResult m' c = p m c := by
  funext i
  obtain ⟨b, s, e, rfl⟩ : ∃ (b : Fin 16) (s : Fin 4096) (e : Fin 512), i = ix3 b s e := ⟨i 0, i 1, i 2, eq_ix3 i⟩
  refine (InprojRef.p_at m' c b s e).trans ?_
  rw [column_eq m c m' h0 h1 h2 h3]
  rfl
include h4 in
/-- and the gates. -/
theorem g_eq : InprojRef.gResult m' c = g m c := by
  funext i
  obtain ⟨b, s, e, rfl⟩ : ∃ (b : Fin 16) (s : Fin 4096) (e : Fin 3072), i = ix3 b s e := ⟨i 0, i 1, i 2, eq_ix3 i⟩
  refine (InprojRef.g_at m' c b s e).trans ?_
  rw [column_eq m c m' h0 h1 h2 h3, h4]
  rfl

end Reference

end Cert.Proof.InprojValue
-- ==== Proof.lean ====
/-
  The assembly of the claim: the frames of every program, and the value of each call against its reference.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.ReferenceIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.KernelFrame
public import proofs.«01_k».proof.Proof.KernelIdealFrame
public import proofs.«01_k».proof.Proof.AttnValue
public import proofs.«01_k».proof.Proof.FfnValue
public import proofs.«01_k».proof.Proof.MergeValue
public import proofs.«01_k».proof.Proof.InprojValue
public import Idealize.ShloMosaic.Lib.Claim

@[expose] public section

noncomputable section

namespace Cert.Proof

open Idealize.ShloMosaic Idealize.SL.Sem

/-- The attention call's result is its reference's, where the queries, keys, values and the factor's vectors are finite. -/
theorem attn_value : Cert.algebraic_KernelIdeal_ReferenceIdeal_pre_finite := fun m g m' g' hm h =>
  ⟨AttnValue.result m,
    (θ_run _ _ _).mono (fun _ k c => ⟨((k.1 c).1 7).trans (AttnValue.final m hm c), k.2.1 c⟩)
      (θ_run_and (KernelIdealAttn.run_main m g) (KernelIdealAttn.framed m g)),
    (θ_run _ _ _).mono (fun _ k c => ⟨(k c).1.trans (by
      obtain ⟨h0, h1, h2, h3, h4, h5, h6, h7, h8, h9⟩ := h c
      exact AttnValue.result_eq m hm c m' h0 h1 h2 h3 h4 h5 h6 h7 h8 h9), (k c).2⟩) (Cert.ReferenceIdeal.Value.run m' g')⟩

/-- The feed-forward call's result is its reference's. -/
theorem ffn_value : Cert.algebraic_FfnIdeal_FfnRefIdeal := fun m g m' g' _ h =>
  ⟨FfnValue.result m,
    (θ_run _ _ _).mono (fun _ k c => ⟨(k c).1.trans (FfnValue.final m c), (k c).2⟩) (Cert.FfnIdeal.Value.run_blocks m g),
    (θ_run _ _ _).mono (fun _ k c => ⟨(k c).1.trans (FfnValue.result_eq m c m' (h c)), (k c).2⟩) (Cert.FfnRefIdeal.Value.run m' g')⟩

/-- The merge's result is its reference's. -/
theorem merge_value : Cert.algebraic_MergeIdeal_MergeRefIdeal := fun m g m' g' _ h =>
  ⟨MergeValue.result m,
    (θ_run _ _ _).mono (fun _ k c => ⟨(k c).1.trans (MergeValue.final m c), (k c).2⟩) (Cert.MergeIdeal.Value.run_blocks m g),
    (θ_run _ _ _).mono (fun _ k c => ⟨(k c).1.trans (by
      obtain ⟨h0, h1, h2, h3, h4, h5, h6, h7, h8, h9, h10⟩ := h c
      exact MergeValue.result_eq m c m' h0 h1 h2 h3 h4 h5 h6 h7 h8 h9 h10), (k c).2⟩) (Cert.MergeRefIdeal.Value.run m' g')⟩

/-- The input projection's six results are its reference's. -/
theorem inproj_value : Cert.algebraic_InprojIdeal_InprojRefIdeal := fun m g m' g' _ h =>
  ⟨InprojValue.u m, InprojValue.q m, InprojValue.k m, InprojValue.v m, InprojValue.p m, InprojValue.g m,
    (θ_run _ _ _).mono (fun _ r c => ⟨(r c).1.trans (InprojValue.u_final m c), (r c).2.1.trans (InprojValue.q_final m c),
      (r c).2.2.1.trans (InprojValue.k_final m c), (r c).2.2.2.1.trans (InprojValue.v_final m c),
      (r c).2.2.2.2.1.trans (InprojValue.p_final m c), (r c).2.2.2.2.2.1.trans (InprojValue.g_final m c), (r c).2.2.2.2.2.2⟩)
      (Cert.InprojIdeal.Value.run_blocks m g),
    (θ_run _ _ _).mono (fun _ r c => by
      obtain ⟨h0, h1, h2, h3, h4⟩ := h c
      exact ⟨(r c).1.trans (InprojValue.u_eq m c m' h0 h1 h2 h3), (r c).2.1.trans (InprojValue.q_eq m c m' h0 h1 h2 h3),
        (r c).2.2.1.trans (InprojValue.k_eq m c m' h0 h1 h2 h3), (r c).2.2.2.1.trans (InprojValue.v_eq m c m' h0 h1 h2 h3),
        (r c).2.2.2.2.1.trans (InprojValue.p_eq m c m' h0 h1 h2 h3), (r c).2.2.2.2.2.1.trans (InprojValue.g_eq m c m' h0 h1 h2 h3 h4),
        (r c).2.2.2.2.2.2⟩) (Cert.InprojRefIdeal.Value.run m' g')⟩

/-- The attention reference's frame: it runs, writes none of its arguments, and has no semaphore. -/
theorem reference_frame : Cert.quiescent_ReferenceIdeal := fun m g _ =>
  (θ_run _ _ _).mono (fun r k => ⟨fun c => (k c).2, sem_eq_zero_of_no_sems (by decide) r.2⟩) (Cert.ReferenceIdeal.Value.run m g)

/-- The feed-forward reference's frame. -/
theorem ffn_reference_frame : Cert.quiescent_FfnRefIdeal := fun m g _ =>
  (θ_run _ _ _).mono (fun r k => ⟨fun c => (k c).2, sem_eq_zero_of_no_sems (by decide) r.2⟩) (Cert.FfnRefIdeal.Value.run m g)

/-- The merge reference's frame. -/
theorem merge_reference_frame : Cert.quiescent_MergeRefIdeal := fun m g _ =>
  (θ_run _ _ _).mono (fun r k => ⟨fun c => (k c).2, sem_eq_zero_of_no_sems (by decide) r.2⟩) (Cert.MergeRefIdeal.Value.run m g)

/-- The input projection reference's frame. -/
theorem inproj_reference_frame : Cert.quiescent_InprojRefIdeal := fun m g _ =>
  (θ_run _ _ _).mono (fun r k => ⟨fun c => (k c).2.2.2.2.2.2, sem_eq_zero_of_no_sems (by decide) r.2⟩) (Cert.InprojRefIdeal.Value.run m g)

/-- The attention reference's frame where the precondition holds. -/
theorem reference_frame_finite : Cert.quiescent_ReferenceIdeal_pre_finite := fun m g _ => reference_frame m g trivial

/-- Every claim of the certificate. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Merge.Gen.facts, Cert.MergeIdeal.Gen.facts, Cert.MergeRefIdeal.Gen.facts,
    Cert.Inproj.Gen.facts, Cert.InprojIdeal.Gen.facts, Cert.InprojRefIdeal.Gen.facts, AttnFinite.facts,
    fun m ρ _ => KernelAttn.framed m ρ, fun m ρ _ => KernelIdealAttn.framed m ρ, fun m ρ _ => KernelIdealAttn.framed m ρ,
    reference_frame, reference_frame_finite,
    fun m ρ _ => Cert.Ffn.Gen.frame m ρ, fun m ρ _ => Cert.FfnIdeal.Gen.frame m ρ, ffn_reference_frame,
    fun m ρ _ => Cert.Merge.Gen.frame m ρ, fun m ρ _ => Cert.MergeIdeal.Gen.frame m ρ, merge_reference_frame,
    fun m ρ _ => Cert.Inproj.Gen.frame m ρ, fun m ρ _ => Cert.InprojIdeal.Gen.frame m ρ, inproj_reference_frame,
    trivial, attn_value, trivial, ffn_value, trivial, merge_value, trivial, inproj_value⟩

end Cert.Proof

end
